-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 2048]⟩ ⟨2, ![4096, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x2048 : Shape := ⟨2, ![1024, 2048]⟩
abbrev S1 : Shape := ⟨1, ![1]⟩
abbrev S4x1024x1024 : Shape := ⟨3, ![4, 1024, 1024]⟩
abbrev S3x4 : Shape := ⟨2, ![3, 4]⟩
abbrev S_ : Shape := ⟨0, ![]⟩
abbrev S1024x1024 : Shape := ⟨2, ![1024, 1024]⟩
abbrev S1024x256 : Shape := ⟨2, ![1024, 256]⟩
abbrev S1x1024x256 : Shape := ⟨3, ![1, 1024, 256]⟩
abbrev S1x1 : Shape := ⟨2, ![1, 1]⟩

abbrev nBuf : Space → Nat
  | .hbm => 5
  | .vmem => 6
  | .smem => 2
  | _ => 0

abbrev bufTy : (tb : Table) → Fin (tcTables nBuf tb) → BufTy
  | .hbm, ⟨0, _⟩ => ⟨S4096x1024, .fp8e5m2⟩
  | .hbm, ⟨1, _⟩ => ⟨S1024x2048, .fp8e5m2⟩
  | .hbm, ⟨2, _⟩ => ⟨S1, .f32⟩
  | .hbm, ⟨3, _⟩ => ⟨S1, .f32⟩
  | .hbm, ⟨4, _⟩ => ⟨S1024x2048, .f32⟩
  | .local _ .vmem, ⟨0, _⟩ => ⟨S4096x1024, .fp8e5m2⟩
  | .local _ .vmem, ⟨1, _⟩ => ⟨S1024x2048, .fp8e5m2⟩
  | .local _ .vmem, ⟨2, _⟩ => ⟨S1024x2048, .f32⟩
  | .local _ .vmem, ⟨3, _⟩ => ⟨S1024x2048, .fp8e5m2⟩
  | .local _ .vmem, ⟨4, _⟩ => ⟨S4x1024x1024, .bf16⟩
  | .local _ .vmem, ⟨5, _⟩ => ⟨S4x1024x1024, .bf16⟩
  | .local _ .smem, ⟨0, _⟩ => ⟨S1, .f32⟩
  | .local _ .smem, ⟨1, _⟩ => ⟨S1, .f32⟩
  | _, _ => ⟨S4096x1024, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 1 → Bool
  | ⟨0, _⟩ => false
  | _ => false

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  (ofTc nBuf bufTy 1 53 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_6 : BitVec 32 := 1#32
  let v9 : BitVec 32 := Scalar.muli v7 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_8 : BitVec 32 := 1#32
  let v11 : BitVec 32 := Scalar.muli v4 c1_i32_8
  let v12 : BitVec 32 := Scalar.addi c0_i32_9 v11
  v12.toNat
def k0_off1 (d0 : Dev nD) (c3_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v18 : BitVec 32 := Scalar.addi v2 c3_i32
  let c4_i32_13 : BitVec 32 := 4#32
  let v19 : BitVec 32 := Scalar.remsi v18 c4_i32_13
  let c1024_i32 : BitVec 32 := 1024#32
  let v34 : BitVec 32 := Scalar.muli v19 c1024_i32
  let v35 : Index := Scalar.indexCast v34
  let c0_28 : Index := 0#32
  ![v35.toNat, 0]
def k0_dev3 (d0 : Dev nD) : Nat :=
  let c0_i32_41 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_40 : BitVec 32 := 1#32
  let v44 : BitVec 32 := Scalar.muli v4 c1_i32_40
  let v45 : BitVec 32 := Scalar.addi c0_i32_41 v44
  v45.toNat
def k0_dev4 (d0 : Dev nD) : Nat :=
  let c0_i32_60 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_59 : BitVec 32 := 1#32
  let v64 : BitVec 32 := Scalar.muli v7 c1_i32_59
  let v65 : BitVec 32 := Scalar.addi c0_i32_60 v64
  v65.toNat
def k0_dev5 (d0 : Dev nD) : Nat :=
  let c0_i32_79 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_78 : BitVec 32 := 1#32
  let v84 : BitVec 32 := Scalar.muli v4 c1_i32_78
  let v85 : BitVec 32 := Scalar.addi c0_i32_79 v84
  v85.toNat
def k0_dev6 (d0 : Dev nD) : Nat :=
  let c0_i32_97 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_96 : BitVec 32 := 1#32
  let v104 : BitVec 32 := Scalar.muli v7 c1_i32_96
  let v105 : BitVec 32 := Scalar.addi c0_i32_97 v104
  v105.toNat
def k0_dev7 (d0 : Dev nD) : Nat :=
  let c0_i32_116 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_115 : BitVec 32 := 1#32
  let v124 : BitVec 32 := Scalar.muli v4 c1_i32_115
  let v125 : BitVec 32 := Scalar.addi c0_i32_116 v124
  v125.toNat
def k0_dev8 (d0 : Dev nD) : Nat :=
  let c0_i32_134 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_133 : BitVec 32 := 1#32
  let v144 : BitVec 32 := Scalar.muli v7 c1_i32_133
  let v145 : BitVec 32 := Scalar.addi c0_i32_134 v144
  v145.toNat
def k0_dev9 (d0 : Dev nD) : Nat :=
  let c0_i32_153 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_152 : BitVec 32 := 1#32
  let v164 : BitVec 32 := Scalar.muli v4 c1_i32_152
  let v165 : BitVec 32 := Scalar.addi c0_i32_153 v164
  v165.toNat
def k0_dev10 (d0 : Dev nD) : Nat :=
  let c0_i32_171 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_170 : BitVec 32 := 1#32
  let v184 : BitVec 32 := Scalar.muli v7 c1_i32_170
  let v185 : BitVec 32 := Scalar.addi c0_i32_171 v184
  v185.toNat
def k0_dev11 (d0 : Dev nD) : Nat :=
  let c0_i32_205 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_204 : BitVec 32 := 1#32
  let v216 : BitVec 32 := Scalar.muli v4 c1_i32_204
  let v217 : BitVec 32 := Scalar.addi c0_i32_205 v216
  v217.toNat
def k0_dev12 (d0 : Dev nD) : Nat :=
  let c0_i32_240 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_239 : BitVec 32 := 1#32
  let v248 : BitVec 32 := Scalar.muli v7 c1_i32_239
  let v249 : BitVec 32 := Scalar.addi c0_i32_240 v248
  v249.toNat
def k0_dev13 (d0 : Dev nD) : Nat :=
  let c0_i32_275 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_274 : BitVec 32 := 1#32
  let v280 : BitVec 32 := Scalar.muli v4 c1_i32_274
  let v281 : BitVec 32 := Scalar.addi c0_i32_275 v280
  v281.toNat
def k0_dev14 (d0 : Dev nD) : Nat :=
  let c0_i32_310 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_309 : BitVec 32 := 1#32
  let v312 : BitVec 32 := Scalar.muli v7 c1_i32_309
  let v313 : BitVec 32 := Scalar.addi c0_i32_310 v312
  v313.toNat
def k0_dev15 (d0 : Dev nD) : Nat :=
  let c0_i32_345 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_344 : BitVec 32 := 1#32
  let v344 : BitVec 32 := Scalar.muli v4 c1_i32_344
  let v345 : BitVec 32 := Scalar.addi c0_i32_345 v344
  v345.toNat
def k0_dev16 (d0 : Dev nD) : Nat :=
  let c0_i32_380 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_379 : BitVec 32 := 1#32
  let v376 : BitVec 32 := Scalar.muli v7 c1_i32_379
  let v377 : BitVec 32 := Scalar.addi c0_i32_380 v376
  v377.toNat
def k0_dev17 (d0 : Dev nD) : Nat :=
  let c0_i32_415 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_414 : BitVec 32 := 1#32
  let v408 : BitVec 32 := Scalar.muli v4 c1_i32_414
  let v409 : BitVec 32 := Scalar.addi c0_i32_415 v408
  v409.toNat
def k0_dev18 (d0 : Dev nD) : Nat :=
  let c0_i32_450 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_449 : BitVec 32 := 1#32
  let v440 : BitVec 32 := Scalar.muli v7 c1_i32_449
  let v441 : BitVec 32 := Scalar.addi c0_i32_450 v440
  v441.toNat
def k0_dev19 (d0 : Dev nD) : Nat :=
  let c0_i32_495 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_494 : BitVec 32 := 1#32
  let v478 : BitVec 32 := Scalar.muli v4 c1_i32_494
  let v479 : BitVec 32 := Scalar.addi c0_i32_495 v478
  v479.toNat
def k0_dev20 (d0 : Dev nD) : Nat :=
  let c0_i32_541 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_540 : BitVec 32 := 1#32
  let v516 : BitVec 32 := Scalar.muli v7 c1_i32_540
  let v517 : BitVec 32 := Scalar.addi c0_i32_541 v516
  v517.toNat
def k0_dev21 (d0 : Dev nD) : Nat :=
  let c0_i32_587 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_586 : BitVec 32 := 1#32
  let v554 : BitVec 32 := Scalar.muli v4 c1_i32_586
  let v555 : BitVec 32 := Scalar.addi c0_i32_587 v554
  v555.toNat
def k0_dev22 (d0 : Dev nD) : Nat :=
  let c0_i32_633 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_632 : BitVec 32 := 1#32
  let v592 : BitVec 32 := Scalar.muli v7 c1_i32_632
  let v593 : BitVec 32 := Scalar.addi c0_i32_633 v592
  v593.toNat
def k0_dev23 (d0 : Dev nD) : Nat :=
  let c0_i32_679 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_678 : BitVec 32 := 1#32
  let v630 : BitVec 32 := Scalar.muli v4 c1_i32_678
  let v631 : BitVec 32 := Scalar.addi c0_i32_679 v630
  v631.toNat
def k0_dev24 (d0 : Dev nD) : Nat :=
  let c0_i32_725 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_724 : BitVec 32 := 1#32
  let v668 : BitVec 32 := Scalar.muli v7 c1_i32_724
  let v669 : BitVec 32 := Scalar.addi c0_i32_725 v668
  v669.toNat
def k0_dev25 (d0 : Dev nD) : Nat :=
  let c0_i32_771 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_770 : BitVec 32 := 1#32
  let v706 : BitVec 32 := Scalar.muli v4 c1_i32_770
  let v707 : BitVec 32 := Scalar.addi c0_i32_771 v706
  v707.toNat
def k0_dev26 (d0 : Dev nD) : Nat :=
  let c0_i32_817 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_816 : BitVec 32 := 1#32
  let v744 : BitVec 32 := Scalar.muli v7 c1_i32_816
  let v745 : BitVec 32 := Scalar.addi c0_i32_817 v744
  v745.toNat
abbrev stage0_0 : Fin 1 → Memref sig .tc .vmem S4096x1024 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e5m2⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e5m2⟩
  | .local _ .vmem, ⟨1, _⟩ => ⟨S4096x2048, .fp8e5m2⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e5m2⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KernelIdeal.Steps.lean ====
/-
The kernel as a list of lane steps.

The result has eight column tiles of width 256; each is computed by one "lane": a direction of travel round the ring
(`false`: to the next device, `true`: to the previous one) and a tile number inside that direction's half of the columns.
A lane runs through seven stages: stage 0 computes the first partial tile and sends it on, stages 1 and 2 add a product to
the tile that arrived and send the sum on, stage 3 finishes the tile, stages 4 and 5 wait for the last two sends.
The printed kernel interleaves the eight lanes; here it is one program over a list of (lane, stage) pairs.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdeal.Body

open Cert.KernelIdeal Cert.KernelIdeal.Gen

open Idealize.ShloMosaic
open Idealize.ShloMosaic.TcCoe
open Idealize.SL Idealize.SL.Sem

variable {F : FTy → Type} [FloatOps F]

/-- A direction of travel and a column tile of that direction's half. -/
abbrev Lane : Type := Bool × Fin 4

/-- Programs of the kernel. -/
abbrev PK (F : FTy → Type) [FloatOps F] (α : Type) : Type _ := Prog (TpuEff nD τ sig (Elt F) Λ₀ .tc) α

/-! ## The buffers and semaphores -/

abbrev xM : Memref sig .tc .vmem S4096x1024 .fp8e5m2 := Memref.whole cc0_stg0_0
abbrev wM : Memref sig .tc .vmem S1024x2048 .fp8e5m2 := Memref.whole cc0_stg1_0
abbrev sxM : Memref sig .tc .smem S1 .f32 := Memref.whole cc0_stg2_0
abbrev swM : Memref sig .tc .smem S1 .f32 := Memref.whole cc0_stg3_0
abbrev oM : Memref sig .tc .vmem S1024x2048 .f32 := Memref.whole cc0_stg4_0
abbrev wbM : Memref sig .tc .vmem S1024x2048 .fp8e5m2 := Memref.whole cc0_scratch0

/-- The scratch buffer of a direction: four slots of 1024 × 1024. -/
def bufRef : Bool → Ref sig .tc
  | false => cc0_scratch1
  | true => cc0_scratch2

/-- That buffer as a memref. -/
def buf : Bool → Memref sig .tc .vmem S4x1024x1024 .bf16
  | false => Memref.whole cc0_scratch1
  | true => Memref.whole cc0_scratch2

theorem buf_whole : ∀ d, (buf d).IsWhole
  | false => Memref.isWhole_whole _
  | true => Memref.isWhole_whole _

theorem inb_tile : ∀ h s : Fin 4, ∀ a, (![h.val, 0, 256 * s.val] : Fin 3 → ℕ) a + S1x1024x256.size a ≤ S4x1024x1024.size a := by decide

/-- The rectangle of tile `s` in slot `h`. -/
abbrev tileR (h s : Fin 4) : Rect S4x1024x1024 :=
  Rect.unit (s := S4x1024x1024) ![h.val, 0, 256 * s.val] S1x1024x256.size (inb_tile h s)

theorem words_tile : ∀ h s : Fin 4, (tileR h s).WholeWords (EltTy.packing .bf16) := by decide

theorem packed_tile : ∀ h s : Fin 4, (tileR h s).PackedRows (EltTy.packing .bf16) := by decide

/-- Tile `s` of slot `h` of a direction's buffer, as a memref of its own. -/
abbrev piece (d : Bool) (h s : Fin 4) : Memref sig .tc .vmem S1024x256 .bf16 :=
  ((buf d).slice (tileR h s) (fun _ => rfl)).squeeze S1024x256 squeezes_S1x1024x256_S1024x256

theorem piece_words (d : Bool) (h s : Fin 4) : (piece d h s).view.WordExact :=
  ((buf_whole d).wordExact_slice rfl _ (words_tile h s)).reshape _ _

/-- The first column of a lane's tile. -/
def col (l : Lane) : ℕ := (bif l.1 then 1024 else 0) + 256 * l.2.val

theorem inb_col : ∀ l : Lane, ∀ a, (![0, col l] : Fin 2 → ℕ) a + S1024x256.size a ≤ S1024x2048.size a := by decide

/-- A lane's tile of columns, in a 1024 × 2048 array. -/
abbrev colR (l : Lane) : Rect S1024x2048 := Rect.unit (s := S1024x2048) ![0, col l] S1024x256.size (inb_col l)

/-- Which block of rows of `x`, counted from the device's own, a stage reads. -/
def turn (d : Bool) (k : Fin 4) : Fin 4 := bif d then k + 1 else 3 - k

/-- The rows of `x` a stage reads. -/
abbrev rowsR (c : Dev nD) (d : Bool) (k : Fin 4) : Rect S4096x1024 :=
  Rect.unit (s := S4096x1024) (k0_off1 c (BitVec.ofNat 32 (turn d k).val)) S1024x1024.size (k0_off1_inb c (turn d k))

theorem inb_sem : ∀ (h : Fin 3) (s : Fin 4), ∀ a, (![h.val, s.val] : Fin 2 → ℕ) a + S1x1.size a ≤ S3x4.size a := by decide

/-- The send semaphores of a direction. -/
def sendA : Bool → DmaSems sig S3x4
  | false => cc0_scratch3
  | true => cc0_scratch5

/-- The receive semaphores of a direction. -/
def recvA : Bool → DmaSems sig S3x4
  | false => cc0_scratch4
  | true => cc0_scratch6

/-- Hop `h`'s send semaphore for tile `s`. -/
def sendS (d : Bool) (h : Fin 3) (s : Fin 4) : DmaSem sig :=
  (((sendA d).slice (Rect.unit (s := S3x4) ![h.val, s.val] S1x1.size (inb_sem h s))).squeeze S_ squeezes_S1x1_S_).sem

/-- Hop `h`'s receive semaphore for tile `s`. -/
def recvS (d : Bool) (h : Fin 3) (s : Fin 4) : DmaSem sig :=
  (((recvA d).slice (Rect.unit (s := S3x4) ![h.val, s.val] S1x1.size (inb_sem h s))).squeeze S_ squeezes_S1x1_S_).sem

/-- The device a direction's tiles are sent to. -/
def peer (d : Bool) (c : Dev nD) : Dev nD := bif d then ⟨k0_dev4 c, k0_dev4_lt c⟩ else ⟨k0_dev3 c, k0_dev3_lt c⟩

/-- The barrier semaphore both neighbours signal at the start. -/
abbrev barS : Sem sig := (SemArray.scalar (sig.barrier 0 rfl) : Sems sig S_).sem

/-! ## What the kernel computes from what it reads -/

/-- The product of a block of `x` and a tile of `w`. -/
def gemm (x : Vec F S1024x1024 .fp8e5m2) (w : Vec F S1024x256 .fp8e5m2) : FVec F S1024x256 .f32 :=
  matmul dot_S1024x1024_S1024x256_S1024x256_1_0_0_1_n_n none (shapeCast S1024x1024 x shapeCasts_S1024x1024_S1024x1024) w
    (constant S1024x256 .f32 0x00000000#32)

/-- The first partial tile. -/
def firstV (x : Vec F S1024x1024 .fp8e5m2) (w : Vec F S1024x256 .fp8e5m2) : FVec F S1024x256 .bf16 :=
  truncf .bf16 (gemm x w) bitsLt_bf16_f32

/-- A product added to the tile that arrived. -/
def addV (x : Vec F S1024x1024 .fp8e5m2) (w : Vec F S1024x256 .fp8e5m2) (a : FVec F S1024x256 .bf16) : FVec F S1024x256 .f32 :=
  addf (gemm x w) (extf .f32 a bitsLt_bf16_f32)

/-- That sum as it is sent on. -/
def midV (x : Vec F S1024x1024 .fp8e5m2) (w : Vec F S1024x256 .fp8e5m2) (a : FVec F S1024x256 .bf16) : FVec F S1024x256 .bf16 :=
  truncf .bf16 (addV x w a) bitsLt_bf16_f32

/-- The finished tile: the last sum scaled, then cut off below zero. -/
def lastV (α : F .f32) (x : Vec F S1024x1024 .fp8e5m2) (w : Vec F S1024x256 .fp8e5m2) (a : FVec F S1024x256 .bf16) :
    FVec F S1024x256 .f32 :=
  maximumf (mulf (addV x w a) (broadcast S1024x256 α)) (broadcast S1024x256 (Scalar.ofBits .f32 0x00000000#32))

/-- A tile in the shape it is stored in and back. -/
abbrev up (v : FVec F S1024x256 .bf16) : FVec F S1x1024x256 .bf16 := shapeCast S1x1024x256 v shapeCasts_S1024x256_S1x1024x256
abbrev dn (v : Vec F S1x1024x256 .bf16) : FVec F S1024x256 .bf16 := shapeCast S1024x256 v shapeCasts_S1x1024x256_S1024x256

/-! ## The steps -/

/-- Read the rows of `x` a stage needs. -/
abbrev ldX (c : Dev nD) (d : Bool) (k : Fin 4) : PK F (Vec F S1024x1024 .fp8e5m2) :=
  Prog.lift (.load xM (rowsR c d k).toLoadRect (View.loadsAt_vmem h_S1024x1024))

/-- Read a lane's columns of `w`. -/
abbrev ldW (l : Lane) : PK F (Vec F S1024x256 .fp8e5m2) :=
  Prog.lift (.load wbM (colR l).toLoadRect (View.loadsAt_vmem h_S1024x256))

/-- Read a tile of a slot. -/
abbrev ldT (d : Bool) (h s : Fin 4) : PK F (Vec F S1x1024x256 .bf16) :=
  Prog.lift (.load (buf d) (tileR h s).toLoadRect (View.loadsAt_vmem h_S1x1024x256))

/-- Write a tile of a slot. -/
abbrev stT (d : Bool) (h s : Fin 4) (v : FVec F S1024x256 .bf16) : PK F PUnit :=
  Prog.lift (.store (buf d) (tileR h s) (up v) Finset.univ
    (View.stores_vmem h_S1x1024x256 ((buf_whole d).storeExact_slice rfl _ (packed_tile h s)) (fun _ => rfl)) (.inl rfl))

theorem piece_tc (d : Bool) (h s : Fin 4) : (piece d h s).view.ref.isScScratch = false := by cases d <;> rfl

/-- Send tile `s` of slot `h` to the next slot of the device that follows. -/
abbrev send (c : Dev nD) (d : Bool) (h : Fin 3) (s : Fin 4) : PK F PUnit :=
  Prog.lift (.enqueueDma (piece d h.castSucc s) (.remote (Dev.tc (peer d c)) (piece d h.succ s) (.dma (sendS d h s)) (hdst := piece_tc d h.succ s)) (.dma (recvS d h s))
    (piece_words d h.castSucc s) (piece_words d h.succ s) ⟨⟨rfl, Or.inl rfl⟩, trivial⟩)

/-- Wait for the tile of hop `h`. -/
abbrev waitR (d : Bool) (h : Fin 3) (s : Fin 4) : PK F PUnit :=
  Prog.lift (.waitDma2 (recvS d h s) (piece d h.castSucc s) (piece d h.succ s) (piece_words d h.castSucc s) (piece_words d h.succ s))

/-- Wait until the send of hop `h` is over. -/
abbrev waitS (d : Bool) (h : Fin 3) (s : Fin 4) : PK F PUnit :=
  Prog.lift (.waitDma2 (sendS d h s) (piece d h.succ s) (piece d h.castSucc s) (piece_words d h.succ s) (piece_words d h.castSucc s))

/-- Stage 0: the first product, stored in slot 0 and sent on. -/
def stepFirst (c : Dev nD) (l : Lane) : PK F PUnit := do
  let x ← ldX c l.1 0
  let w ← ldW l
  let _ ← ldT l.1 0 l.2
  stT l.1 0 l.2 (firstV x w)
  send c l.1 0 l.2

/-- Stage 1: the second product added to the tile of hop 0, and the sum sent on. -/
def stepSecond (c : Dev nD) (l : Lane) : PK F PUnit := do
  let x ← ldX c l.1 1
  let w ← ldW l
  waitR l.1 0 l.2
  let a ← ldT l.1 1 l.2
  let _ ← ldT l.1 1 l.2
  stT l.1 1 l.2 (midV x w (dn a))
  send c l.1 1 l.2

/-- Stage 2: the third product added to the tile of hop 1, and the sum sent on once the send of hop 0 is over. -/
def stepThird (c : Dev nD) (l : Lane) : PK F PUnit := do
  let x ← ldX c l.1 2
  let w ← ldW l
  waitR l.1 1 l.2
  let a ← ldT l.1 2 l.2
  let _ ← ldT l.1 2 l.2
  stT l.1 2 l.2 (midV x w (dn a))
  waitS l.1 0 l.2
  send c l.1 2 l.2

/-- Stage 3: the last product added to the tile of hop 2, and the finished tile stored in the result. -/
def stepLast (α : F .f32) (c : Dev nD) (l : Lane) : PK F PUnit := do
  let x ← ldX c l.1 3
  let w ← ldW l
  waitR l.1 2 l.2
  let a ← ldT l.1 3 l.2
  let _ ← (Prog.lift (.load oM (colR l).toLoadRect (View.loadsAt_vmem h_S1024x256)) : PK F (Vec F S1024x256 .f32))
  Prog.lift (.store oM (colR l) (lastV α x w (dn a)) Finset.univ (View.stores_vmem_bits_univ h_S1024x256 rfl) (.inl rfl))

/-- The step of a lane at a stage. -/
def step (α : F .f32) (c : Dev nD) (l : Lane) : ℕ → PK F PUnit
  | 0 => stepFirst c l
  | 1 => stepSecond c l
  | 2 => stepThird c l
  | 3 => stepLast α c l
  | 4 => waitS l.1 1 l.2
  | _ => waitS l.1 2 l.2

/-- A list of steps, one after the other. -/
def run (α : F .f32) (c : Dev nD) : List (Lane × ℕ) → PK F PUnit
  | [] => .ret ⟨⟩
  | a :: rest => do step α c a.1 a.2; run α c rest

/-- The lanes in the order the kernel visits them: the two directions of each tile number in turn. -/
def lanes : List Lane := [(false, 0), (true, 0), (false, 1), (true, 1), (false, 2), (true, 2), (false, 3), (true, 3)]

/-- The three rounds that send tiles on. -/
def early : List (Lane × ℕ) := lanes.map (·, 0) ++ lanes.map (·, 1) ++ lanes.map (·, 2)

/-- The round that finishes the tiles, and the waits for the last sends. -/
def late : List (Lane × ℕ) := lanes.map (·, 3) ++
  ([0, 1, 2, 3] : List (Fin 4)).flatMap fun s => [((false, s), 4), ((true, s), 4), ((false, s), 5), ((true, s), 5)]

/-- The kernel: the handshake with the two neighbours around a copy of `w`, the early rounds, the two scales, the late ones. -/
def prog : PK F PUnit := do
  let c : Dev nD ← Prog.lift .deviceId
  semSignalWord (⟨k0_dev1 c, k0_dev1_lt c⟩ : Dev nD) barS 1#32
  semSignalWord (⟨k0_dev2 c, k0_dev2_lt c⟩ : Dev nD) barS 1#32
  let w : Vec F S1024x2048 .fp8e5m2 ← Prog.lift (.load wM (Rect.unit (s := S1024x2048) ![0, 0] S1024x2048.size inb_S1024x2048_S1024x2048_0_0).toLoadRect (View.loadsAt_vmem h_S1024x2048))
  let _ : Vec F S1024x2048 .fp8e5m2 ← Prog.lift (.load wbM (Rect.unit (s := S1024x2048) ![0, 0] S1024x2048.size inb_S1024x2048_S1024x2048_0_0).toLoadRect (View.loadsAt_vmem h_S1024x2048))
  Prog.lift (.store wbM (Rect.unit (s := S1024x2048) ![0, 0] S1024x2048.size inb_S1024x2048_S1024x2048_0_0) (k0_pay1 w) Finset.univ
    (View.stores_vmem h_S1024x2048 ((Memref.isWhole_whole cc0_scratch0).storeExact_slice rfl _ packedfp8e5m2_S1024x2048_S1024x2048_0_0) (fun _ => rfl)) (.inl rfl))
  semWaitWord barS 2#32
  run (Scalar.ofBits .f32 0x00000000#32) c early
  let a : Elt F .f32 ← smemLoad sxM (Rect.unit (s := S1) ![0] S1.size inb_S1_S1_0) numel1_S1 rfl
  let b : Elt F .f32 ← smemLoad swM (Rect.unit (s := S1) ![0] S1.size inb_S1_S1_0) numel1_S1 rfl
  run (Scalar.mulf a b) c late

set_option maxRecDepth 65536 in
/-- The printed kernel, on the pipeline's buffers, is that program. -/
theorem body_eq (t : Fin cfg0.N) : bodyAt0 (F := F) t = prog (F := F) := by
  chain_rfl

end Cert.KernelIdeal.Body

end

end
-- ==== Proof.KernelIdeal.Protocol.lean ====
/-
The protocol between the devices.

Devices form a ring; direction `false` sends to the next device, direction `true` to the previous one. For each direction
`d`, hop `h` and tile `s` there is a send and a receive semaphore, each used once.

* The barrier semaphore of device `c` is raised twice by one unit: the device that `c` sends to in direction `d` raises it
  as duty `d`, and hands over its own slots 1, 2, 3 of buffer `d` (any contents) for `c` to send into. `c` waits for both.
* The receive semaphore (d, h, s) of `c` is raised by the copy of hop `h`, which hands over tile `s` of slot `h + 1` of
  `c`'s buffer `d`, holding the partial tile of hop `h` of the device that sends to `c`.
* The send semaphore (d, h, s) of `c` is raised by the same copy when its source has been read: it hands back tile `s` of
  slot `h`.

Levels: staging and send semaphores 0, barrier 1, the receive semaphores of hop `h` at `h + 2`.
-/
module

public import proofs.«01_k».proof.Proof.KernelIdeal.Steps

@[expose] public section

noncomputable section

namespace Cert.KernelIdeal.Body

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost state: the pipeline's copy and the ring's, whose duties are directions -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The ring -/

theorem peer_peer : ∀ (d : Bool) (c : Dev nD), peer (!d) (peer d c) = c := by decide +kernel
theorem peer_peer' : ∀ (d : Bool) (c : Dev nD), peer d (peer (!d) c) = c := by decide +kernel
theorem dev1_eq : ∀ c : Dev nD, (⟨k0_dev1 c, k0_dev1_lt c⟩ : Dev nD) = peer true c := by decide +kernel
theorem dev2_eq : ∀ c : Dev nD, (⟨k0_dev2 c, k0_dev2_lt c⟩ : Dev nD) = peer false c := by decide +kernel

/-- The ring's permutation of a direction. -/
def ring (d : Bool) : Dev nD ≃ Dev nD := ⟨peer d, peer (!d), peer_peer d, peer_peer' d⟩

/-! ## The semaphores -/

/-- The semaphores of the protocol: the barrier, and a send (`false`) or receive (`true`) semaphore per direction, hop and tile. -/
abbrev Xf : Type := Bool × Bool × Fin 3 × Fin 4
abbrev Cell : Type := Option Xf

/-- The kernel's own semaphores; -/
def osem (x : Xf) : SemLoc sig := .dma (bif x.1 then recvS x.2.1 x.2.2.1 x.2.2.2 else sendS x.2.1 x.2.2.1 x.2.2.2)
/-- all the protocol's. -/
def csem : Cell → SemLoc sig
  | none => .reg barS
  | some x => osem x

theorem sendS_val : ∀ d h s, (sendS d h s).val = 5 + (bif d then 24 else 0) + 4 * h.val + s.val := by decide +kernel
theorem recvS_val : ∀ d h s, (recvS d h s).val = 17 + (bif d then 24 else 0) + 4 * h.val + s.val := by decide +kernel

theorem osem_injective : Function.Injective osem := by
  rintro ⟨r, d, h, s⟩ ⟨r', d', h', s'⟩ e
  have e1 := congrArg Fin.val (SemLoc.dma.inj e)
  have h1 := h.isLt; have h2 := h'.isLt; have s1 := s.isLt; have s2 := s'.isLt
  have : r = r' ∧ d = d' ∧ h.val = h'.val ∧ s.val = s'.val := by
    cases r <;> cases r' <;> cases d <;> cases d' <;>
      simp only [cond_true, cond_false, sendS_val, recvS_val, true_and, and_true, false_and, and_false, reduceCtorEq] at e1 ⊢ <;> omega
  obtain ⟨rfl, rfl, hh, hs⟩ := this
  rw [Fin.ext hh, Fin.ext hs]

theorem csem_injective : Function.Injective csem := by
  rintro (_ | x) (_ | y) e
  · rfl
  · cases e
  · cases e
  · exact congrArg some (osem_injective e)

abbrev kcell (c : Dev nD) (k : Cell) : GSem nD τ sig := ((c : Thread nD τ), csem k)
abbrev barCell (c : Dev nD) : GSem nD τ sig := ((c : Thread nD τ), .reg barS)
abbrev sendCell (c : Dev nD) (l : Lane) (h : Fin 3) : GSem nD τ sig := ((c : Thread nD τ), .dma (sendS l.1 h l.2))
abbrev recvCell (c : Dev nD) (l : Lane) (h : Fin 3) : GSem nD τ sig := ((c : Thread nD τ), .dma (recvS l.1 h l.2))

theorem kcell_injective {c c' : Dev nD} {k k' : Cell} (e : kcell c k = kcell c' k') : c = c' ∧ k = k' :=
  ⟨congrArg (fun g : GSem nD τ sig => g.1.1) e, csem_injective (congrArg Prod.snd e)⟩

open Classical in
/-- Which of the protocol's semaphores a semaphore of the machine is, if any. -/
def kOf (g : GSem nD τ sig) : Option Cell := if h : g.1.2 = .tc ∧ ∃ k, csem k = g.2 then some h.2.choose else none

theorem kOf_kcell (c : Dev nD) (k : Cell) : kOf (kcell c k) = some k := by
  unfold kOf
  have h : (kcell c k).1.2 = .tc ∧ ∃ k', csem k' = (kcell c k).2 := ⟨rfl, k, rfl⟩
  rw [dif_pos h, csem_injective h.2.choose_spec]

theorem kOf_bar (c : Dev nD) : kOf (barCell c) = some none := kOf_kcell c none
theorem kOf_send (c : Dev nD) (l : Lane) (h : Fin 3) : kOf (sendCell c l h) = some (some (false, l.1, h, l.2)) := kOf_kcell c (some (false, l.1, h, l.2))
theorem kOf_recv (c : Dev nD) (l : Lane) (h : Fin 3) : kOf (recvCell c l h) = some (some (true, l.1, h, l.2)) := kOf_kcell c (some (true, l.1, h, l.2))

/-- The credit of one copy. -/
def N : ℕ := (piece false 0 0).view.dmaCredit
theorem N_pos : 0 < N := View.dmaCredit_pos _ (by decide)
theorem credit_eq (d : Bool) (h s : Fin 4) : (piece d h s).view.dmaCredit = N := by cases d <;> rfl

/-! ## The contents -/

/-- What a device's staged blocks of the arguments hold. -/
def xstg (c : Dev nD) : Vec F S4096x1024 .fp8e5m2 := (win0_0.blk (0 : Fin 1)).view.read (Elt F) (m ((c : Thread nD τ).loc main_arg0))
def wstg (c : Dev nD) : Vec F S1024x2048 .fp8e5m2 := (win0_1.blk (0 : Fin 1)).view.read (Elt F) (m ((c : Thread nD τ).loc main_arg1))
def sxstg (c : Dev nD) : Vec F S1 .f32 := (win0_2.blk (0 : Fin 1)).view.read (Elt F) (m ((c : Thread nD τ).loc main_arg2))
def swstg (c : Dev nD) : Vec F S1 .f32 := (win0_3.blk (0 : Fin 1)).view.read (Elt F) (m ((c : Thread nD τ).loc main_arg3))

/-- The rows of `x` a device reads at a stage, and a lane's columns of `w`. -/
def xs (c : Dev nD) (d : Bool) (k : Fin 4) : Vec F S1024x1024 .fp8e5m2 := xM.view.readAt (Elt F) (rowsR c d k).toLoadRect (xstg m c)
def ws (c : Dev nD) (l : Lane) : Vec F S1024x256 .fp8e5m2 := wbM.view.readAt (Elt F) (colR l).toLoadRect (wstg m c)

/-- The partial tile device `c` sends on at a hop: its own product, added from the second hop on to the tile that arrived. -/
def val (l : Lane) : Fin 3 → Dev nD → FVec F S1024x256 .bf16
  | 0, c => firstV (xs m c l.1 0) (ws m c l)
  | 1, c => midV (xs m c l.1 1) (ws m c l) (firstV (xs m (peer (!l.1) c) l.1 0) (ws m (peer (!l.1) c) l))
  | 2, c => midV (xs m c l.1 2) (ws m c l) (midV (xs m (peer (!l.1) c) l.1 1) (ws m (peer (!l.1) c) l)
      (firstV (xs m (peer (!l.1) (peer (!l.1) c)) l.1 0) (ws m (peer (!l.1) (peer (!l.1) c)) l)))

/-- The product of the two scales. -/
def alpha (c : Dev nD) : F .f32 := Scalar.mulf (sxstg m c (Shape.Idx.first (by decide))) (swstg m c (Shape.Idx.first (by decide)))

/-- The finished tile of a lane. -/
def outV (l : Lane) (c : Dev nD) : FVec F S1024x256 .f32 := lastV (alpha m c) (xs m c l.1 3) (ws m c l) (val m l 2 (peer (!l.1) c))

/-! ## The schedule -/

/-- A tile of a slot on device `c`, held at some contents. -/
def tileAny (c : Dev nD) (d : Bool) (h s : Fin 4) : sProp 𝕄 :=
  iprop(∃ f : Buf (Elt F) ((piece d h s).view.loc (c : Thread nD τ)), (piece d h s).view.loc (c : Thread nD τ) ↦[(piece d h s).view.set]{fullShare} f)

/-- The same, reading `X`. -/
def tileAt (c : Dev nD) (d : Bool) (h s : Fin 4) (X : FVec F S1024x256 .bf16) : sProp 𝕄 :=
  iprop(∃ f : Buf (Elt F) ((piece d h s).view.loc (c : Thread nD τ)), ⌜(piece d h s).view.read (Elt F) f = X⌝
    ∗ (piece d h s).view.loc (c : Thread nD τ) ↦[(piece d h s).view.set]{fullShare} f)

omit [FloatOps F] in
instance tileAny_storable (c : Dev nD) (d h s) : BI.Storable (upEmb : UEmb _ 𝕄) (tileAny (F := F) c d h s) := by unfold tileAny; infer_instance
omit [FloatOps F] in
instance tileAt_storable (c : Dev nD) (d h s X) : BI.Storable (upEmb : UEmb _ 𝕄) (tileAt (F := F) c d h s X) := by unfold tileAt; infer_instance

omit [FloatOps F] in
theorem tileAt_any (c : Dev nD) (d h s X) : (tileAt c d h s X : sProp 𝕄) ⊢ tileAny c d h s := by
  unfold tileAt tileAny
  iintro ⟨%f, -, H⟩
  iexists f
  iexact H

/-- What the signal of duty `d` hands device `c`. -/
def barPay (c : Dev nD) (d : Bool) : sProp 𝕄 := bigSep Finset.univ fun hs : Fin 3 × Fin 4 => tileAny (peer d c) d hs.1.succ hs.2

omit [FloatOps F] in
instance barPay_storable (c : Dev nD) (d) : BI.Storable (upEmb : UEmb _ 𝕄) (barPay (F := F) c d) := by unfold barPay; infer_instance

/-- What a raise of each semaphore hands over. -/
def pay (c : Dev nD) : Cell → Bool → sProp 𝕄
  | none, d => barPay c d
  | some (false, d, h, s), _ => tileAny c d h.castSucc s
  | some (true, d, h, s), _ => tileAt c d h.succ s (val m (d, s) h (peer (!d) c))

instance pay_storable (c : Dev nD) : ∀ k d, BI.Storable (upEmb : UEmb _ 𝕄) (pay m c k d)
  | none, _ => by unfold pay; infer_instance
  | some (false, _, _, _), _ => by unfold pay; infer_instance
  | some (true, _, _, _), _ => by unfold pay; infer_instance

/-- The duties of a semaphore: the barrier has one per direction, the others one. -/
def dutiesOf : Option Cell → Finset Bool
  | none => ∅
  | some none => Finset.univ
  | some (some _) => {false}

/-- Their amounts. -/
def amountOf : Option Cell → ℕ
  | some none => 1
  | _ => N

/-- Their payloads. -/
def payOf (c : Dev nD) (k : Option Cell) (d : Bool) : sProp 𝕄 := match k with
  | none => iprop(emp)
  | some k => pay m c k d

instance payOf_storable (c : Dev nD) : ∀ k d, BI.Storable (upEmb : UEmb _ 𝕄) (payOf m c k d)
  | none, _ => by unfold payOf; infer_instance
  | some k, d => by unfold payOf; exact pay_storable m c k d

/-- The whole schedule: one round. -/
def ringRd : Rounds.Schedule (GSem nD τ sig) Bool 𝕄 where
  duties g r := if r = 0 then dutiesOf (kOf g) else ∅
  unitless _ := False
  amount g _ _ := amountOf (kOf g)
  payload g _ d := payOf m g.1.1 (kOf g) d
  amount_pos g _ _ _ := by
    unfold amountOf
    split
    · exact Nat.one_pos
    · exact N_pos

instance ringRd_payload_storable (g : GSem nD τ sig) (r : ℕ) (d : Bool) :
    BI.Storable (upEmb : UEmb _ 𝕄) ((ringRd (F := F) m).payload g r d) := payOf_storable m g.1.1 (kOf g) d

section Sched
variable (c : Dev nD) (l : Lane) (h : Fin 3)

theorem duties_bar : (ringRd (F := F) m).duties (barCell c) 0 = Finset.univ := by
  show (if 0 = 0 then dutiesOf (kOf (barCell c)) else ∅) = _; rw [if_pos rfl, kOf_bar]; rfl
theorem duties_send : (ringRd (F := F) m).duties (sendCell c l h) 0 = {false} := by
  show (if 0 = 0 then dutiesOf (kOf (sendCell c l h)) else ∅) = _; rw [if_pos rfl, kOf_send]; rfl
theorem duties_recv : (ringRd (F := F) m).duties (recvCell c l h) 0 = {false} := by
  show (if 0 = 0 then dutiesOf (kOf (recvCell c l h)) else ∅) = _; rw [if_pos rfl, kOf_recv]; rfl
theorem duties_later (g : GSem nD τ sig) : ∀ r, 1 ≤ r → (ringRd (F := F) m).duties g r = ∅ :=
  fun r hr => if_neg (by omega)

theorem amount_bar (d : Bool) : (ringRd (F := F) m).amount (barCell c) 0 d = 1 := by
  show amountOf (kOf (barCell c)) = 1; rw [kOf_bar]; rfl
theorem amount_send (d : Bool) : (ringRd (F := F) m).amount (sendCell c l h) 0 d = N := by
  show amountOf (kOf (sendCell c l h)) = N; rw [kOf_send]; rfl
theorem amount_recv (d : Bool) : (ringRd (F := F) m).amount (recvCell c l h) 0 d = N := by
  show amountOf (kOf (recvCell c l h)) = N; rw [kOf_recv]; rfl

theorem expect_bar : (ringRd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_send : (ringRd (F := F) m).expect (sendCell c l h) 0 = N := by
  unfold Schedule.expect Schedule.amountOf; rw [duties_send, Finset.sum_singleton, amount_send]
theorem expect_recv : (ringRd (F := F) m).expect (recvCell c l h) 0 = N := by
  unfold Schedule.expect Schedule.amountOf; rw [duties_recv, Finset.sum_singleton, amount_recv]

theorem payload_bar (d : Bool) : (ringRd (F := F) m).payload (barCell c) 0 d = barPay c d := by
  show payOf m c (kOf (barCell c)) d = _; rw [kOf_bar]; rfl
theorem payload_send (d : Bool) : (ringRd (F := F) m).payload (sendCell c l h) 0 d = tileAny c l.1 h.castSucc l.2 := by
  show payOf m c (kOf (sendCell c l h)) d = _; rw [kOf_send]; rfl
theorem payload_recv (d : Bool) :
    (ringRd (F := F) m).payload (recvCell c l h) 0 d = tileAt c l.1 h.succ l.2 (val m l h (peer (!l.1) c)) := by
  show payOf m c (kOf (recvCell c l h)) d = _; rw [kOf_recv]; rfl

theorem rest_bar : bigSep ((ringRd (F := F) m).duties (barCell c) 0 \ ∅) (fun d => (ringRd (F := F) m).payload (barCell c) 0 d)
    = iprop(barPay c false ∗ barPay c true) := by
  rw [Finset.sdiff_empty, duties_bar, bigSep_univ_eq_bigSepL [false, true] (by decide) (by decide), bigSepL_cons_cons, bigSepL_singleton,
    payload_bar, payload_bar]
  rfl
theorem rest_send : bigSep ((ringRd (F := F) m).duties (sendCell c l h) 0 \ ∅) (fun d => (ringRd (F := F) m).payload (sendCell c l h) 0 d)
    = tileAny c l.1 h.castSucc l.2 := by
  rw [Finset.sdiff_empty, duties_send, bigSep_singleton, payload_send]
theorem rest_recv : bigSep ((ringRd (F := F) m).duties (recvCell c l h) 0 \ ∅) (fun d => (ringRd (F := F) m).payload (recvCell c l h) 0 d)
    = tileAt c l.1 h.succ l.2 (val m l h (peer (!l.1) c)) := by
  rw [Finset.sdiff_empty, duties_recv, bigSep_singleton, payload_recv]

end Sched

/-! ## Levels and debts -/

def L (g : GSem nD τ sig) : Finset Unit := if g.1.2 = .tc then {()} else ∅
/-- The level of a semaphore. -/
def levOf : Option Cell → ℕ
  | some none => 1
  | some (some (true, _, h, _)) => h.val + 2
  | _ => 0
def lv (g : GSem nD τ sig) (_ : Unit) : ℕ := levOf (kOf g)

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := by unfold lv; rw [kOf_bar]; rfl
theorem lv_send (c : Dev nD) (l : Lane) (h : Fin 3) (u : Unit) : lv (sendCell c l h) u = 0 := by unfold lv; rw [kOf_send]; rfl
theorem lv_recv (c : Dev nD) (l : Lane) (h : Fin 3) (u : Unit) : lv (recvCell c l h) u = h.val + 2 := by unfold lv; rw [kOf_recv]; rfl

/-- Everything in a debt is above level `n`. -/
def Above (n : ℕ) (O : CellTallies nD τ sig Unit) : Prop := ∀ g u, 0 < O g u → g.1.2 = .tc ∧ n < lv g u

theorem Above.mono {n n' : ℕ} {O : CellTallies nD τ sig Unit} (h : Above n' O) (hn : n ≤ n') : Above n O :=
  fun g u hg => ⟨(h g u hg).1, lt_of_le_of_lt hn (h g u hg).2⟩
theorem Above.zero (n : ℕ) : Above n 0 := fun _ _ h => absurd h (Nat.lt_irrefl 0)
theorem Above.add {n : ℕ} {O P : CellTallies nD τ sig Unit} (h : Above n O) (h' : Above n P) : Above n (O + P) := fun g u hg => by
  rw [Pi.add_apply, Finsupp.add_apply] at hg
  rcases Nat.add_pos_iff_pos_or_pos.mp hg with hg | hg
  · exact h g u hg
  · exact h' g u hg
theorem Above.sum {ι : Type} (s : Finset ι) {n : ℕ} {O : ι → CellTallies nD τ sig Unit} (h : ∀ i ∈ s, Above n (O i)) : Above n (∑ i ∈ s, O i) := by
  classical
  induction s using Finset.induction_on with
  | empty => exact Above.zero n
  | insert a s ha ih =>
    rw [Finset.sum_insert ha]
    exact (h a (Finset.mem_insert_self a s)).add (ih fun i hi => h i (Finset.mem_insert_of_mem hi))
theorem Above.tally {n k : ℕ} {c : Dev nD} {sm : SemLoc sig} (h : n < lv ((c : Thread nD τ), sm) ()) : Above n (tallyAt ((c : Thread nD τ), sm) () k) := fun g u hg => by
  rw [tallyAt_apply] at hg
  by_cases e : g = ((c : Thread nD τ), sm) ∧ u = ()
  · rw [e.1]; exact ⟨rfl, h⟩
  · rw [if_neg e] at hg; exact absurd hg (Nat.lt_irrefl 0)

/-- A wait at a level below every debt is allowed. -/
theorem mayWait (c : Dev nD) (sm : SemLoc sig) {O : CellTallies nD τ sig Unit} (h : Above (lv ((c : Thread nD τ), sm) ()) O) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp])
    (fun g u hg => (h g u hg).2)

/-- What a lane still owes before a stage: the raise of the receive semaphore of each hop it has yet to send. -/
def owed (c : Dev nD) (l : Lane) : ℕ → CellTallies nD τ sig Unit
  | 0 => tallyAt (recvCell (peer l.1 c) l 2) () N + tallyAt (recvCell (peer l.1 c) l 1) () N + tallyAt (recvCell (peer l.1 c) l 0) () N
  | 1 => tallyAt (recvCell (peer l.1 c) l 2) () N + tallyAt (recvCell (peer l.1 c) l 1) () N
  | 2 => tallyAt (recvCell (peer l.1 c) l 2) () N
  | _ => 0

theorem above_owed (c : Dev nD) (l : Lane) (k : ℕ) {n : ℕ} (hn : n ≤ min k 3 + 1) : Above n (owed c l k) := by
  have ht : ∀ h : Fin 3, n < h.val + 2 → Above n (tallyAt (recvCell (peer l.1 c) l h) () N) := fun h hh =>
    Above.tally (by rw [lv_recv]; exact hh)
  rcases k with _ | _ | _ | k
  · exact ((ht 2 (by simp at hn ⊢; omega)).add (ht 1 (by simp at hn ⊢; omega))).add (ht 0 (by simp at hn ⊢; omega))
  · exact (ht 2 (by simp at hn ⊢; omega)).add (ht 1 (by simp at hn ⊢; omega))
  · exact ht 2 (by simp at hn ⊢; omega)
  · exact Above.zero n

end Cert.KernelIdeal.Body

end

end
-- ==== Proof.KernelIdeal.Rules.lean ====
/-
One rule per kind of effect of a lane: loading and storing a tile, sending one, waiting for one, waiting for a send to be over.
-/
module

public import proofs.«01_k».proof.Proof.KernelIdeal.Protocol
public import Idealize.ShloMosaic.Lib.Pipeline.Value

@[expose] public section

noncomputable section

namespace Cert.KernelIdeal.Body

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- The proof obligation of a program of device `c`. -/
abbrev WP {α : Type} (c : Dev nD) (p : PK F α) (Q : α → sProp 𝕄) : sProp 𝕄 :=
  wp frame (wpE (defs₀ (F := F)) 𝒱₀ (c : Thread nD τ) none) Set.univ p Q

/-! ## The shared records -/

/-- Every protocol semaphore of every device has its invariant, and has reached its only round. -/
def records (K : Dev nD × Cell → ℕ) : sProp 𝕄 :=
  iprop((bigSep Finset.univ fun ck : Dev nD × Cell => cellInv ER (ringRd m) (K ck) (kcell ck.1 ck.2))
    ∗ bigSep Finset.univ fun ck : Dev nD × Cell => reached ER (kcell ck.1 ck.2) 0)

instance records_persistent (K : Dev nD × Cell → ℕ) : BI.Persistent (records m K) := by unfold records; infer_instance

variable (K : Dev nD × Cell → ℕ)

theorem inv_at (c : Dev nD) (k : Cell) : records m K ⊢ cellInv ER (ringRd m) (K (c, k)) (kcell c k) := by
  have h : (bigSep Finset.univ fun ck : Dev nD × Cell => (cellInv ER (ringRd m) (K ck) (kcell ck.1 ck.2) : sProp 𝕄))
      ⊢ cellInv ER (ringRd m) (K (c, k)) (kcell c k) := bigSep_elim (Finset.mem_univ (c, k))
  unfold records
  iintro ⟨H, -⟩
  iapply h
  iexact H

theorem reached_at (c : Dev nD) (k : Cell) : records m K ⊢ reached ER (kcell c k) 0 := by
  have h : (bigSep Finset.univ fun ck : Dev nD × Cell => (reached ER (kcell ck.1 ck.2) 0 : sProp 𝕄)) ⊢ reached ER (kcell c k) 0 :=
    bigSep_elim (Finset.mem_univ (c, k))
  unfold records
  iintro ⟨-, H⟩
  iapply h
  iexact H

/-! ## Loading and storing a tile -/

theorem tile_set (d : Bool) (h s : Fin 4) : (piece d h s).view.set = ((buf d).access (tileR h s)).set :=
  View.set_reshape _ _

theorem tile_setOn (d : Bool) (h s : Fin 4) : (buf d).view.setOn (tileR h s).toLoadRect.set ⊆ (piece d h s).view.set := by
  rw [tile_set]; exact ((buf d).view.set_slice (tileR h s)).ge

/-- A tile loaded from a slot is the one it holds. -/
theorem wp_ldT (c : Dev nD) (d : Bool) (h s : Fin 4) {α : Type} (k : Vec F S1x1024x256 .bf16 → PK F α) (Q : α → sProp 𝕄)
    (X : FVec F S1024x256 .bf16) :
    tileAt c d h s X ⊢ iprop((∀ v, ⌜dn v = X⌝ -∗ tileAt c d h s X -∗ WP c (k v) Q) -∗ WP c (ldT d h s >>= k) Q) := by
  unfold tileAt
  simp only [Prog.lift, Prog.bind_op, Prog.bind_ret]
  iintro ⟨%f, %hf, H⟩ Hk
  iapply (wp_load 𝒱₀ (c : Thread nD τ) none Set.univ (m := buf d) (tile_setOn d h s)) $$ H
  iintro H
  ispecialize Hk $$ %((buf d).view.readAt (Elt F) (tileR h s).toLoadRect f) %hf
  iapply Hk
  iexists f
  isplitr; · ipureintro; exact hf
  iexact H

/-- A tile may be loaded without being used. -/
theorem wp_ldT_any (c : Dev nD) (d : Bool) (h s : Fin 4) {α : Type} (k : Vec F S1x1024x256 .bf16 → PK F α) (Q : α → sProp 𝕄) :
    tileAny c d h s ⊢ iprop((∀ v, tileAny c d h s -∗ WP c (k v) Q) -∗ WP c (ldT d h s >>= k) Q) := by
  unfold tileAny
  simp only [Prog.lift, Prog.bind_op, Prog.bind_ret]
  iintro ⟨%f, H⟩ Hk
  iapply (wp_load 𝒱₀ (c : Thread nD τ) none Set.univ (m := buf d) (tile_setOn d h s)) $$ H
  iintro H
  ispecialize Hk $$ %((buf d).view.readAt (Elt F) (tileR h s).toLoadRect f)
  iapply Hk
  iexists f
  iexact H

theorem read_stored (d : Bool) (h s : Fin 4) (f : (buf d).view.ty.Contents (Elt F)) (v : FVec F S1024x256 .bf16) :
    (piece d h s).view.read (Elt F) (((buf d).access (tileR h s)).write (Elt F) f (up v) Finset.univ) = v := by
  show dn (((buf d).access (tileR h s)).read (Elt F) (((buf d).access (tileR h s)).write (Elt F) f (up v) Finset.univ)) = v
  rw [View.read_write_univ]
  exact shapeCast_shapeCast _ _ _

/-- A tile stored in a slot is held there. -/
theorem wp_stT (c : Dev nD) (d : Bool) (h s : Fin 4) {α : Type} (k : PUnit → PK F α) (Q : α → sProp 𝕄) (v : FVec F S1024x256 .bf16) :
    tileAny c d h s ⊢ iprop((tileAt c d h s v -∗ WP c (k ⟨⟩) Q) -∗ WP c (stT d h s v >>= k) Q) := by
  unfold tileAny tileAt
  simp only [Prog.lift, Prog.bind_op, Prog.bind_ret]
  iintro ⟨%f, H⟩ Hk
  iapply (wp_store 𝒱₀ (c : Thread nD τ) none Set.univ (m := buf d) (r := tileR h s) (Mk := Finset.univ) (S := (piece d h s).view.set) (tile_set d h s).ge) $$ H
  iintro H
  iapply Hk
  iexists _
  isplitr
  · ipureintro; exact read_stored d h s f v
  iexact H

/-! ## Sends and waits -/

/-- What a lane holds for a hop it has not sent: the two duties of the copy, the destination, its place on the send semaphore. -/
def sndTodo (c : Dev nD) (l : Lane) (h : Fin 3) : sProp 𝕄 :=
  iprop(dutyTok ER (sendCell c l h) 0 false ∗ dutyTok ER (recvCell (peer l.1 c) l h) 0 false
    ∗ tileAny (peer l.1 c) l.1 h.succ l.2 ∗ atPos ER (sendCell c l h) 0 ∅ 0)
/-- While the copy is under way: the credit of the send semaphore. -/
def sndFly (c : Dev nD) (l : Lane) (h : Fin 3) : sProp 𝕄 :=
  iprop(cred (tallyAt (sendCell c l h) () N) ∗ atPos ER (sendCell c l h) 0 ∅ 0)
/-- Once the send is over: its source back. -/
def sndDone (c : Dev nD) (l : Lane) (h : Fin 3) : sProp 𝕄 :=
  iprop(atPos ER (sendCell c l h) 1 ∅ 0 ∗ tileAny c l.1 h.castSucc l.2)
/-- For a hop not yet received: the credit of the receive semaphore. -/
def rcvTodo (c : Dev nD) (l : Lane) (h : Fin 3) : sProp 𝕄 :=
  iprop(cred (tallyAt (recvCell c l h) () N) ∗ atPos ER (recvCell c l h) 0 ∅ 0)
/-- Once received. -/
def rcvDone (c : Dev nD) (l : Lane) (h : Fin 3) : sProp 𝕄 := atPos ER (recvCell c l h) 1 ∅ 0

/-- The debt account of a device, whatever waits it has been through. -/
def debt (c : Dev nD) (O : CellTallies nD τ sig Unit) : sProp 𝕄 := iprop(∃ W, owes (c : Thread nD τ) O W)

/-- Sending a partial tile: the debt of the receive semaphore is paid. -/
theorem wp_sendT (c : Dev nD) (l : Lane) (h : Fin 3) {α : Type} (k : PUnit → PK F α) (Q : α → sProp 𝕄) (O : CellTallies nD τ sig Unit) :
    iprop(records m K ∗ tileAt c l.1 h.castSucc l.2 (val m l h c) ∗ sndTodo c l h ∗ debt c (O + tallyAt (recvCell (peer l.1 c) l h) () N))
      ⊢ iprop((sndFly c l h -∗ debt c O -∗ WP c (k ⟨⟩) Q) -∗ WP c (send c l.1 h l.2 >>= k) Q) := by
  unfold sndTodo sndFly debt tileAt
  simp only [Prog.lift, Prog.bind_op, Prog.bind_ret]
  iintro ⟨#HR, ⟨%f, %hf, Hs⟩, ⟨HtS, HtV, Hd, Hat⟩, ⟨%W, HO⟩⟩ Hk
  unfold tileAny
  icases Hd with ⟨%fd, Hd⟩
  iapply (Rounds.wp_send_pointsTo 𝒱₀ ER (ringRd m) (c : Thread nD τ) none (κ₁ := K (c, some (false, l.1, h, l.2))) (κ₂ := K (peer l.1 c, some (true, l.1, h, l.2)))
      (c' := (peer l.1 c : Thread nD τ)) (src := piece l.1 h.castSucc l.2) (dst := piece l.1 h.succ l.2) (sS := .dma (sendS l.1 h l.2)) (sem := .dma (recvS l.1 h l.2))
      (r₁ := 0) (r₂ := 0) (d₁ := false) (d₂ := false) (fs := f) (fd := fd)
      (by rw [duties_send]; exact Finset.mem_singleton_self _) (by rw [duties_recv]; exact Finset.mem_singleton_self _)
      () () N (credit_eq _ _ _) (amount_send m c l h false) (amount_recv m (peer l.1 c) l h false) O rfl (W := W)
      (by rw [payload_send]; unfold tileAny; iintro H; iexists f; iexact H)
      (by
        rw [payload_recv]; unfold tileAt
        iintro H
        iexists _
        isplitr; swap; · iexact H
        ipureintro
        rw [View.read_write_univ, peer_peer]
        exact hf)) $$ [Hs Hd HO HtS HtV]
  · isplitr; · iapply (inv_at m K c (some (false, l.1, h, l.2))); iexact HR
    isplitr; · iapply (inv_at m K (peer l.1 c) (some (true, l.1, h, l.2))); iexact HR
    isplitl [Hs]; · iexact Hs
    isplitl [Hd]; · iexact Hd
    isplitl [HO]; · iexact HO
    isplitl [HtS]; · iexact HtS
    isplitr; · iapply (reached_at m K c (some (false, l.1, h, l.2))); iexact HR
    isplitl [HtV]; · iexact HtV
    iapply (reached_at m K (peer l.1 c) (some (true, l.1, h, l.2))); iexact HR
  iintro ⟨HcS, HO⟩
  iapply Hk $$ [HcS Hat]
  · isplitl [HcS] <;> iassumption
  iexists W
  iexact HO

/-- Waiting for a tile: it is there, holding the sender's partial tile. -/
theorem wp_waitR (c : Dev nD) (l : Lane) (h : Fin 3) {α : Type} (k : PUnit → PK F α) (Q : α → sProp 𝕄) (O : CellTallies nD τ sig Unit)
    (hO : Above (h.val + 2) O) :
    iprop(records m K ∗ levAts L lv ∗ rcvTodo c l h ∗ debt c O)
      ⊢ iprop((rcvDone c l h -∗ tileAt c l.1 h.succ l.2 (val m l h (peer (!l.1) c)) -∗ debt c O -∗ WP c (k ⟨⟩) Q)
          -∗ WP c (waitR l.1 h l.2 >>= k) Q) := by
  unfold rcvTodo rcvDone debt
  simp only [Prog.lift, Prog.bind_op, Prog.bind_ret]
  iintro ⟨#HR, #Hlev, ⟨Hc, Hat⟩, ⟨%W, HO⟩⟩ Hk
  iapply (Rounds.wp_wait_rest_token 𝒱₀ ER (ringRd m) (c : Thread nD τ) none (κ := K (c, some (true, l.1, h, l.2))) (sm := .dma (recvS l.1 h l.2)) (k' := N)
      (by intro K'; rw [wpE_waitDma2_eq]; rw [show (piece l.1 h.succ l.2).view.dmaCredit = N from credit_eq _ _ _]) (Set.mem_univ _) () (O := O) (W := W) (R := 0) (m := 0) (T := ∅)
      (by rw [Nat.zero_add]; exact (expect_recv m c l h).symm)) $$ [Hc HO Hat]
  · isplitr; · iapply (inv_at m K c (some (true, l.1, h, l.2))); iexact HR
    isplitl [Hc]; · iexact Hc
    isplitl [HO]; · iexact HO
    isplitr; · iapply (mayWait c (.dma (recvS l.1 h l.2)) (by rw [lv_recv c l h ()]; exact hO)); iexact Hlev
    iexact Hat
  iintro ⟨HO, Hat, -, Hpay⟩
  ihave Hp := (Entails.of_eq (rest_recv m c l h)) $$ Hpay
  iapply Hk $$ [Hat] [Hp]
  · iexact Hat
  · iexact Hp
  iexists _
  iexact HO

/-- Waiting for a send to be over: its source is back. -/
theorem wp_waitS (c : Dev nD) (l : Lane) (h : Fin 3) {α : Type} (k : PUnit → PK F α) (Q : α → sProp 𝕄) (O : CellTallies nD τ sig Unit)
    (hO : Above 0 O) :
    iprop(records m K ∗ levAts L lv ∗ sndFly c l h ∗ debt c O)
      ⊢ iprop((sndDone c l h -∗ debt c O -∗ WP c (k ⟨⟩) Q) -∗ WP c (waitS l.1 h l.2 >>= k) Q) := by
  unfold sndFly sndDone debt
  simp only [Prog.lift, Prog.bind_op, Prog.bind_ret]
  iintro ⟨#HR, #Hlev, ⟨Hc, Hat⟩, ⟨%W, HO⟩⟩ Hk
  iapply (Rounds.wp_wait_rest_token 𝒱₀ ER (ringRd m) (c : Thread nD τ) none (κ := K (c, some (false, l.1, h, l.2))) (sm := .dma (sendS l.1 h l.2)) (k' := N)
      (by intro K'; rw [wpE_waitDma2_eq]; rw [show (piece l.1 h.castSucc l.2).view.dmaCredit = N from credit_eq _ _ _]) (Set.mem_univ _) () (O := O) (W := W) (R := 0) (m := 0) (T := ∅)
      (by rw [Nat.zero_add]; exact (expect_send m c l h).symm)) $$ [Hc HO Hat]
  · isplitr; · iapply (inv_at m K c (some (false, l.1, h, l.2))); iexact HR
    isplitl [Hc]; · iexact Hc
    isplitl [HO]; · iexact HO
    isplitr; · iapply (mayWait c (.dma (sendS l.1 h l.2)) (by rw [lv_send c l h ()]; exact hO)); iexact Hlev
    iexact Hat
  iintro ⟨HO, Hat, -, Hpay⟩
  ihave Hp := (Entails.of_eq (rest_send m c l h)) $$ Hpay
  iapply Hk $$ [Hat Hp]
  · isplitl [Hat] <;> iassumption
  iexists _
  iexact HO

end Cert.KernelIdeal.Body

end

end
-- ==== Proof.KernelIdeal.Lane.lean ====
/-
What a lane holds before each of its stages, and what a stage does to it; then a whole list of stages.
-/
module

public import proofs.«01_k».proof.Proof.KernelIdeal.Rules
public import Idealize.ShloMosaic.Lib.ValueIdxCore
public import Idealize.ShloMosaic.Lib.Pipeline.ValueKit.Geometry

@[expose] public section

noncomputable section

namespace Cert.KernelIdeal.Body

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Cell → ℕ)

/-! ## The arguments in VMEM -/

/-- The device's staged block of `x`, -/
def xPts (c : Dev nD) : sProp 𝕄 := xM.view.loc (c : Thread nD τ) ↦[Finset.univ]{fullShare} (xstg m c)
/-- and the copy of its block of `w`. -/
def wPts (c : Dev nD) : sProp 𝕄 := wbM.view.loc (c : Thread nD τ) ↦[Finset.univ]{fullShare} (wstg m c)

/-- What the rows of `x` read at a stage are. -/
theorem wp_ldX (c : Dev nD) (d : Bool) (j : Fin 4) {α : Type} (k : Vec F S1024x1024 .fp8e5m2 → PK F α) (Q : α → sProp 𝕄) :
    xPts m c ⊢ iprop((xPts m c -∗ WP c (k (xs m c d j)) Q) -∗ WP c (ldX c d j >>= k) Q) := by
  unfold xPts
  simp only [Prog.lift, Prog.bind_op, Prog.bind_ret]
  iintro H Hk
  iapply (wp_load 𝒱₀ (c : Thread nD τ) none Set.univ (m := xM) (Finset.subset_univ _)) $$ H
  iexact Hk

/-- What a lane's columns of `w` are. -/
theorem wp_ldW (c : Dev nD) (l : Lane) {α : Type} (k : Vec F S1024x256 .fp8e5m2 → PK F α) (Q : α → sProp 𝕄) :
    wPts m c ⊢ iprop((wPts m c -∗ WP c (k (ws m c l)) Q) -∗ WP c (ldW l >>= k) Q) := by
  unfold wPts
  simp only [Prog.lift, Prog.bind_op, Prog.bind_ret]
  iintro H Hk
  iapply (wp_load 𝒱₀ (c : Thread nD τ) none Set.univ (m := wbM) (Finset.subset_univ _)) $$ H
  iexact Hk

/-! ## The result's tiles -/

/-- The lane that computes a column. -/
def laneOf (j : ℕ) : Lane := (decide (1024 ≤ j), ⟨j % 1024 / 256, by omega⟩)

/-- The device's block of the result: every column is its lane's. -/
def outAt (c : Dev nD) : Vec F S1024x2048 .f32 := fun i =>
  outV m (laneOf (i 1).val) c (ValueIdx.ix2 (n0 := 1024) (n1 := 256) (i 0) ⟨(i 1).val % 256, Nat.mod_lt _ (by decide)⟩)

theorem laneOf_col (l : Lane) (j : ℕ) (hj : j < 256) : laneOf (col l + j) = l := by
  obtain ⟨d, s⟩ := l
  have hs := s.isLt
  unfold laneOf col
  cases d <;> simp only [cond_true, cond_false, Prod.mk.injEq, decide_eq_true_eq, decide_eq_false_iff_not] <;>
    exact ⟨by omega, Fin.ext (by simp only []; omega)⟩

theorem col_mod (l : Lane) (j : ℕ) (hj : j < 256) : (col l + j) % 256 = j := by
  obtain ⟨d, s⟩ := l
  unfold col
  cases d <;> simp only [cond_true, cond_false] <;> omega

/-- A lane's tile of the result, held at some contents; -/
def outAny (c : Dev nD) (l : Lane) : sProp 𝕄 :=
  iprop(∃ f : Buf (Elt F) (oM.view.loc (c : Thread nD τ)), oM.view.loc (c : Thread nD τ) ↦[(oM.access (colR l)).set]{fullShare} f)
/-- finished. -/
def outDone (c : Dev nD) (l : Lane) : sProp 𝕄 := oM.view.loc (c : Thread nD τ) ↦[(oM.access (colR l)).set]{fullShare} (outAt m c)

theorem outAt_emb (c : Dev nD) (l : Lane) (i : S1024x2048.Idx) (j : S1024x256.Idx) (h0 : (i 0).val = (j 0).val) (h1 : (i 1).val = col l + (j 1).val) :
    outAt m c i = outV m l c j := by
  have hj : (j 1).val < 256 := (j 1).isLt
  have e : (ValueIdx.ix2 (n0 := 1024) (n1 := 256) (i 0) ⟨(i 1).val % 256, Nat.mod_lt _ (by decide)⟩ : S1024x256.Idx) = j := by
    funext a
    match a with
    | ⟨0, _⟩ => exact Fin.ext h0
    | ⟨1, _⟩ => exact Fin.ext (by show (i 1).val % 256 = (j 1).val; rw [h1, col_mod l _ hj])
  unfold outAt
  rw [e, h1, laneOf_col l _ hj]

/-- The finished tile, stored over anything, is the block of the result on its columns. -/
theorem write_out (c : Dev nD) (l : Lane) (f : oM.view.ty.Contents (Elt F)) : ∀ i ∈ (oM.access (colR l)).set,
    (oM.access (colR l)).write (Elt F) f (outV m l c) Finset.univ i = outAt m c i := by
  intro i hi
  obtain ⟨j, -, hj⟩ := Finset.mem_map.mp hi
  have h1 : (oM.access (colR l)).write (Elt F) f (outV m l c) Finset.univ ((oM.access (colR l)).emb j) = outV m l c j :=
    congrFun (View.read_write_univ (v := oM.access (colR l)) f (outV m l c)) j
  rw [← hj]
  refine h1.trans (outAt_emb m c l _ j ?_ ?_).symm
  · exact (ValueKit.view_emb_slice_whole_unit_val cc0_stg4_0 _ _ _ j 0).trans (Nat.zero_add _)
  · exact ValueKit.view_emb_slice_whole_unit_val cc0_stg4_0 _ _ _ j 1

/-- Loading a tile of the result for nothing, then storing the finished tile. -/
theorem wp_out (c : Dev nD) (l : Lane) {α : Type} (k : PUnit → PK F α) (Q : α → sProp 𝕄) (v : FVec F S1024x256 .f32) (hv : v = outV m l c) :
    outAny c l ⊢ iprop((outDone m c l -∗ WP c (k ⟨⟩) Q) -∗ WP c
      ((Prog.lift (.load oM (colR l).toLoadRect (View.loadsAt_vmem h_S1024x256)) : PK F (Vec F S1024x256 .f32)) >>= fun _ =>
        Prog.lift (.store oM (colR l) v Finset.univ (View.stores_vmem_bits_univ h_S1024x256 rfl) (.inl rfl)) >>= k) Q) := by
  subst hv
  unfold outAny outDone
  simp only [Prog.lift, Prog.bind_op, Prog.bind_ret]
  iintro ⟨%f, H⟩ Hk
  iapply (wp_load 𝒱₀ (c : Thread nD τ) none Set.univ (m := oM) (oM.view.set_slice (colR l)).ge) $$ H
  iintro H
  iapply (wp_store 𝒱₀ (c : Thread nD τ) none Set.univ (m := oM) (r := colR l) (Mk := Finset.univ) (S := (oM.access (colR l)).set) (Finset.Subset.refl _)) $$ H
  iintro H
  ihave H' := (Entails.of_eq (pointsTo_congr (write_out m c l f))) $$ H
  iapply Hk
  iexact H'

/-! ## The stages -/

/-- What a lane holds before each stage. -/
def LaneSt (c : Dev nD) (l : Lane) : ℕ → sProp 𝕄
  | 0 => iprop(outAny c l ∗ tileAny c l.1 0 l.2 ∗ (sndTodo c l 0 ∗ sndTodo c l 1 ∗ sndTodo c l 2) ∗ rcvTodo c l 0 ∗ rcvTodo c l 1 ∗ rcvTodo c l 2)
  | 1 => iprop(outAny c l ∗ (sndFly c l 0 ∗ sndTodo c l 1 ∗ sndTodo c l 2) ∗ rcvTodo c l 0 ∗ rcvTodo c l 1 ∗ rcvTodo c l 2)
  | 2 => iprop(outAny c l ∗ (sndFly c l 0 ∗ sndFly c l 1 ∗ sndTodo c l 2) ∗ rcvDone c l 0 ∗ rcvTodo c l 1 ∗ rcvTodo c l 2)
  | 3 => iprop(outAny c l ∗ (sndDone c l 0 ∗ sndFly c l 1 ∗ sndFly c l 2) ∗ rcvDone c l 0 ∗ rcvDone c l 1 ∗ rcvTodo c l 2)
  | 4 => iprop(outDone m c l ∗ tileAny c l.1 3 l.2 ∗ (sndDone c l 0 ∗ sndFly c l 1 ∗ sndFly c l 2) ∗ rcvDone c l 0 ∗ rcvDone c l 1 ∗ rcvDone c l 2)
  | 5 => iprop(outDone m c l ∗ tileAny c l.1 3 l.2 ∗ (sndDone c l 0 ∗ sndDone c l 1 ∗ sndFly c l 2) ∗ rcvDone c l 0 ∗ rcvDone c l 1 ∗ rcvDone c l 2)
  | _ => iprop(outDone m c l ∗ tileAny c l.1 3 l.2 ∗ (sndDone c l 0 ∗ sndDone c l 1 ∗ sndDone c l 2) ∗ rcvDone c l 0 ∗ rcvDone c l 1 ∗ rcvDone c l 2)

/-- What every stage uses and leaves: the records, the levels, `x` and `w`. -/
def Common (c : Dev nD) : sProp 𝕄 := iprop(records m K ∗ levAts L lv ∗ xPts m c ∗ wPts m c)

/-- Stage 0. -/
theorem wp_stepFirst (c : Dev nD) (l : Lane) {α : Type} (k : PUnit → PK F α) (Q : α → sProp 𝕄) (O : CellTallies nD τ sig Unit) :
    iprop(Common m K c ∗ LaneSt m c l 0 ∗ debt c (O + owed c l 0))
      ⊢ iprop((Common m K c -∗ LaneSt m c l 1 -∗ debt c (O + owed c l 1) -∗ WP c (k ⟨⟩) Q) -∗ WP c (stepFirst c l >>= k) Q) := by
  simp only [Common, stepFirst, bind_assoc, LaneSt, owed, ← add_assoc]
  iintro ⟨⟨#HR, #Hlev, Hx, Hw⟩, ⟨Hout, Ht, ⟨Hs0, Hs1, Hs2⟩, Hr⟩, HO⟩ Hk
  iapply (wp_ldX m c l.1 0) $$ Hx
  iintro Hx
  iapply (wp_ldW m c l) $$ Hw
  iintro Hw
  iapply (wp_ldT_any c l.1 0 l.2) $$ Ht
  iintro %v Ht
  iapply (wp_stT c l.1 0 l.2) $$ Ht
  iintro Ht
  iapply (wp_sendT m K c l 0) $$ [Ht Hs0 HO]
  · iframe
    isplitr; · iexact HR
    iexact Ht
  iintro Hf HO
  iapply Hk $$ [Hx Hw] [Hout Hf Hs1 Hs2 Hr]
  · iframe; isplitr; · iexact HR
    iexact Hlev
  · iframe
  iexact HO

/-- Stage 1. -/
theorem wp_stepSecond (c : Dev nD) (l : Lane) {α : Type} (k : PUnit → PK F α) (Q : α → sProp 𝕄) (O : CellTallies nD τ sig Unit) (hO : Above 2 (O + owed c l 1)) :
    iprop(Common m K c ∗ LaneSt m c l 1 ∗ debt c (O + owed c l 1))
      ⊢ iprop((Common m K c -∗ LaneSt m c l 2 -∗ debt c (O + owed c l 2) -∗ WP c (k ⟨⟩) Q) -∗ WP c (stepSecond c l >>= k) Q) := by
  simp only [Common, stepSecond, bind_assoc, LaneSt, owed, ← add_assoc] at hO ⊢
  iintro ⟨⟨#HR, #Hlev, Hx, Hw⟩, ⟨Hout, ⟨Hs0, Hs1, Hs2⟩, Hr0, Hr1, Hr2⟩, HO⟩ Hk
  iapply (wp_ldX m c l.1 1) $$ Hx
  iintro Hx
  iapply (wp_ldW m c l) $$ Hw
  iintro Hw
  iapply (wp_waitR m K c l 0 _ _ _ hO) $$ [Hr0 HO]
  · iframe
    isplitr; · iexact HR
    iexact Hlev
  iintro Hr0 Ht HO
  ihave Ht := (Entails.of_eq (P := tileAt c l.1 (Fin.succ 0) l.2 (val m l 0 (peer (!l.1) c))) (Q := tileAt c l.1 1 l.2 (firstV (xs m (peer (!l.1) c) l.1 0) (ws m (peer (!l.1) c) l))) rfl) $$ Ht
  iapply (wp_ldT c l.1 1 l.2) $$ Ht
  iintro %v %hv Ht
  ihave Ht := (tileAt_any c l.1 1 l.2 _) $$ Ht
  iapply (wp_ldT_any c l.1 1 l.2) $$ Ht
  iintro %v' Ht
  rw [hv]
  iapply (wp_stT c l.1 1 l.2) $$ Ht
  iintro Ht
  iapply (wp_sendT m K c l 1) $$ [Ht Hs1 HO]
  · iframe
    isplitr; · iexact HR
    iexact Ht
  iintro Hf HO
  iapply Hk $$ [Hx Hw] [Hout Hs0 Hf Hs2 Hr0 Hr1 Hr2]
  · iframe; isplitr; · iexact HR
    iexact Hlev
  · iframe
  iexact HO

/-- Stage 2. -/
theorem wp_stepThird (c : Dev nD) (l : Lane) {α : Type} (k : PUnit → PK F α) (Q : α → sProp 𝕄) (O : CellTallies nD τ sig Unit) (hO : Above 3 (O + owed c l 2)) :
    iprop(Common m K c ∗ LaneSt m c l 2 ∗ debt c (O + owed c l 2))
      ⊢ iprop((Common m K c -∗ LaneSt m c l 3 -∗ debt c (O + owed c l 3) -∗ WP c (k ⟨⟩) Q) -∗ WP c (stepThird c l >>= k) Q) := by
  simp only [Common, stepThird, bind_assoc, LaneSt, owed, add_zero] at hO ⊢
  iintro ⟨⟨#HR, #Hlev, Hx, Hw⟩, ⟨Hout, ⟨Hs0, Hs1, Hs2⟩, Hr0, Hr1, Hr2⟩, HO⟩ Hk
  iapply (wp_ldX m c l.1 2) $$ Hx
  iintro Hx
  iapply (wp_ldW m c l) $$ Hw
  iintro Hw
  iapply (wp_waitR m K c l 1 _ _ _ hO) $$ [Hr1 HO]
  · iframe
    isplitr; · iexact HR
    iexact Hlev
  iintro Hr1 Ht HO
  ihave Ht := (Entails.of_eq (P := tileAt c l.1 (Fin.succ 1) l.2 (val m l 1 (peer (!l.1) c))) (Q := tileAt c l.1 2 l.2 (val m l 1 (peer (!l.1) c))) rfl) $$ Ht
  iapply (wp_ldT c l.1 2 l.2) $$ Ht
  iintro %v %hv Ht
  ihave Ht := (tileAt_any c l.1 2 l.2 _) $$ Ht
  iapply (wp_ldT_any c l.1 2 l.2) $$ Ht
  iintro %v' Ht
  rw [hv]
  iapply (wp_stT c l.1 2 l.2) $$ Ht
  iintro Ht
  iapply (wp_waitS m K c l 0 _ _ _ (hO.mono (Nat.zero_le _))) $$ [Hs0 HO]
  · iframe
    isplitr; · iexact HR
    iexact Hlev
  iintro Hs0 HO
  iapply (wp_sendT m K c l 2) $$ [Ht Hs2 HO]
  · iframe
    isplitr; · iexact HR
    iexact Ht
  iintro Hf HO
  iapply Hk $$ [Hx Hw] [Hout Hs0 Hs1 Hf Hr0 Hr1 Hr2]
  · iframe; isplitr; · iexact HR
    iexact Hlev
  · iframe
  iexact HO

/-- Stage 3, with the product of the scales. -/
theorem wp_stepLast (c : Dev nD) (l : Lane) {α : Type} (k : PUnit → PK F α) (Q : α → sProp 𝕄) (O : CellTallies nD τ sig Unit) (hO : Above 4 (O + owed c l 3)) :
    iprop(Common m K c ∗ LaneSt m c l 3 ∗ debt c (O + owed c l 3))
      ⊢ iprop((Common m K c -∗ LaneSt m c l 4 -∗ debt c (O + owed c l 4) -∗ WP c (k ⟨⟩) Q) -∗ WP c (stepLast (alpha m c) c l >>= k) Q) := by
  simp only [Common, stepLast, bind_assoc, LaneSt, owed, add_zero] at hO ⊢
  iintro ⟨⟨#HR, #Hlev, Hx, Hw⟩, ⟨Hout, Hs, Hr0, Hr1, Hr2⟩, HO⟩ Hk
  iapply (wp_ldX m c l.1 3) $$ Hx
  iintro Hx
  iapply (wp_ldW m c l) $$ Hw
  iintro Hw
  iapply (wp_waitR m K c l 2 _ _ _ hO) $$ [Hr2 HO]
  · iframe
    isplitr; · iexact HR
    iexact Hlev
  iintro Hr2 Ht HO
  ihave Ht := (Entails.of_eq (P := tileAt c l.1 (Fin.succ 2) l.2 (val m l 2 (peer (!l.1) c))) (Q := tileAt c l.1 3 l.2 (val m l 2 (peer (!l.1) c))) rfl) $$ Ht
  iapply (wp_ldT c l.1 3 l.2) $$ Ht
  iintro %v %hv Ht
  ihave Ht := (tileAt_any c l.1 3 l.2 _) $$ Ht
  iapply (wp_out m c l _ _ _ (by rw [hv]; rfl)) $$ Hout
  iintro Hout
  iapply Hk $$ [Hx Hw] [Hout Ht Hs Hr0 Hr1 Hr2]
  · iframe; isplitr; · iexact HR
    iexact Hlev
  · iframe
  iexact HO

/-- Stage 4 or 5: the wait for the send of hop 1 or 2. -/
theorem wp_stepWait (c : Dev nD) (l : Lane) {α : Type} (k : PUnit → PK F α) (Q : α → sProp 𝕄) (O : CellTallies nD τ sig Unit) (n : ℕ) (hn : 4 ≤ n) (hn' : n < 6) (hO : Above 0 (O + owed c l n)) :
    iprop(Common m K c ∗ LaneSt m c l n ∗ debt c (O + owed c l n))
      ⊢ iprop((Common m K c -∗ LaneSt m c l (n + 1) -∗ debt c (O + owed c l (n + 1)) -∗ WP c (k ⟨⟩) Q)
          -∗ WP c (step (alpha m c) c l n >>= k) Q) := by
  obtain rfl | rfl : n = 4 ∨ n = 5 := by omega
  all_goals simp only [Common, step, LaneSt, owed, add_zero] at hO ⊢
  · iintro ⟨⟨#HR, #Hlev, Hx, Hw⟩, ⟨Hout, Ht, ⟨Hs0, Hs1, Hs2⟩, Hr⟩, HO⟩ Hk
    iapply (wp_waitS m K c l 1 _ _ _ hO) $$ [Hs1 HO]
    · iframe
      isplitr; · iexact HR
      iexact Hlev
    iintro Hs1 HO
    iapply Hk $$ [Hx Hw] [Hout Ht Hs0 Hs1 Hs2 Hr]
    · iframe; isplitr; · iexact HR
      iexact Hlev
    · iframe
    iexact HO
  · iintro ⟨⟨#HR, #Hlev, Hx, Hw⟩, ⟨Hout, Ht, ⟨Hs0, Hs1, Hs2⟩, Hr⟩, HO⟩ Hk
    iapply (wp_waitS m K c l 2 _ _ _ hO) $$ [Hs2 HO]
    · iframe
      isplitr; · iexact HR
      iexact Hlev
    iintro Hs2 HO
    iapply Hk $$ [Hx Hw] [Hout Ht Hs0 Hs1 Hs2 Hr]
    · iframe; isplitr; · iexact HR
      iexact Hlev
    · iframe
    iexact HO

/-- Any stage: from what the lane holds before it to what it holds after, given that the rest of the debt is above the
stage's waits. Stage 3 multiplies by the scales `a`. -/
theorem wp_step (c : Dev nD) (l : Lane) {α : Type} (k : PUnit → PK F α) (Q : α → sProp 𝕄) (O : CellTallies nD τ sig Unit) (a : F .f32) (n : ℕ) (hn : n < 6) (ha : n = 3 → a = alpha m c) (hO : Above (min n 3 + 1) (O + owed c l n)) :
    iprop(Common m K c ∗ LaneSt m c l n ∗ debt c (O + owed c l n))
      ⊢ iprop((Common m K c -∗ LaneSt m c l (n + 1) -∗ debt c (O + owed c l (n + 1)) -∗ WP c (k ⟨⟩) Q) -∗ WP c (step a c l n >>= k) Q) := by
  rcases n with _ | _ | _ | _ | n
  · exact wp_stepFirst m K c l k Q O
  · exact wp_stepSecond m K c l k Q O hO
  · exact wp_stepThird m K c l k Q O hO
  · obtain rfl := ha rfl
    exact wp_stepLast m K c l k Q O hO
  · have h4 : 4 ≤ n + 4 := by omega
    have := wp_stepWait m K c l k Q O (n + 4) h4 hn (hO.mono (Nat.zero_le _))
    rcases n with _ | n <;> exact this

/-! ## A list of stages -/

/-- A list of stages that the lanes, each at the stage `σ` gives it, can run: a lane runs the stage it is at, and no lane is behind it. -/
def Runs (σ : Lane → ℕ) : List (Lane × ℕ) → Prop
  | [] => True
  | (l, n) :: rest => σ l = n ∧ n < 6 ∧ (∀ l', min n 3 ≤ σ l') ∧ Runs (Function.update σ l (n + 1)) rest

instance runsDecidable : ∀ (σ : Lane → ℕ) (acts : List (Lane × ℕ)), Decidable (Runs σ acts)
  | _, [] => .isTrue trivial
  | σ, (l, n) :: rest => @instDecidableAnd _ _ _ (@instDecidableAnd _ _ _ (@instDecidableAnd _ _ _ (runsDecidable (Function.update σ l (n + 1)) rest)))

/-- The stages the lanes are at afterwards. -/
def after (σ : Lane → ℕ) : List (Lane × ℕ) → Lane → ℕ
  | [] => σ
  | (l, n) :: rest => after (Function.update σ l (n + 1)) rest

/-- What all the lanes hold, and owe. -/
def Lanes (c : Dev nD) (σ : Lane → ℕ) : sProp 𝕄 :=
  iprop(debt c (∑ l : Lane, owed c l (σ l)) ∗ bigSep Finset.univ fun l : Lane => LaneSt m c l (σ l))

/-- Running a list of stages. -/
theorem wp_run (c : Dev nD) (a : F .f32) {α : Type} (k : PUnit → PK F α) (Q : α → sProp 𝕄) : ∀ (acts : List (Lane × ℕ)) (σ : Lane → ℕ), Runs σ acts →
    (∀ p ∈ acts, p.2 = 3 → a = alpha m c) →
    iprop(Common m K c ∗ Lanes m c σ) ⊢ iprop((Common m K c -∗ Lanes m c (after σ acts) -∗ WP c (k ⟨⟩) Q) -∗ WP c (run a c acts >>= k) Q)
  | [], σ, _, _ => by
    simp only [run, after, Prog.bind_ret]
    iintro ⟨HC, HL⟩ Hk
    iapply Hk $$ HC HL
  | (l, n) :: rest, σ, ⟨h1, h2, h3, h4⟩, ha => by
    have ih := wp_run c a k Q rest (Function.update σ l (n + 1)) h4 (fun p hp => ha p (List.mem_cons_of_mem _ hp))
    have hne : ∀ l' ∈ Finset.univ.erase l, Function.update σ l (n + 1) l' = σ l' := fun l' hl' =>
      Function.update_of_ne (Finset.ne_of_mem_erase hl') _ _
    have hs : ∀ σ' : Lane → ℕ, (∑ l' : Lane, owed c l' (σ' l')) = (∑ l' ∈ Finset.univ.erase l, owed c l' (σ' l')) + owed c l (σ' l) := fun σ' =>
      (Finset.sum_erase_add _ _ (Finset.mem_univ l)).symm
    have hO : Above (min n 3 + 1) ((∑ l' ∈ Finset.univ.erase l, owed c l' (σ l')) + owed c l n) := by
      refine (Above.sum _ fun l' _ => above_owed c l' _ ?_).add (above_owed c l n le_rfl)
      have := h3 l'
      omega
    subst h1
    simp only [run, after, bind_assoc]
    unfold Lanes at ih ⊢
    have hlan : ∀ σ' : Lane → ℕ, (bigSep Finset.univ fun l' : Lane => LaneSt m c l' (σ' l'))
        = iprop(LaneSt m c l (σ' l) ∗ bigSep (Finset.univ.erase l) fun l' => LaneSt m c l' (σ' l')) := fun σ' => bigSep_erase (Finset.mem_univ l)
    rw [hs, hlan, Function.update_self, Finset.sum_congr rfl fun l' hl' => by rw [hne l' hl'],
      bigSep_congr (Ψ := fun l' => LaneSt m c l' (σ l')) fun l' hl' => by rw [hne l' hl']] at ih
    rw [hs σ, hlan σ]
    iintro ⟨HC, HO, Hl, Hrest⟩ Hk
    iapply (wp_step m K c l _ _ _ a (σ l) h2 (ha _ List.mem_cons_self) hO) $$ [HC HO Hl]
    · isplitl [HC]; · iexact HC
      isplitl [Hl] <;> iassumption
    iintro HC Hl HO
    iapply ih $$ [HC HO Hl Hrest]
    · isplitl [HC]; · iexact HC
      isplitl [HO]; · iexact HO
      isplitl [Hl] <;> iassumption
    iexact Hk

end Cert.KernelIdeal.Body

end

end
-- ==== Proof.KernelIdeal.Tiles.lean ====
/-
Cutting the kernel's buffers into the lanes' tiles and joining them again.
-/
module

public import proofs.«01_k».proof.Proof.KernelIdeal.Lane
public import Idealize.ShloMosaic.Lib.Ring

@[expose] public section

noncomputable section

namespace Cert.KernelIdeal.Body

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Cell → ℕ)

/-! ## Sums over lanes -/

omit [FloatOps F] in
theorem bigSep_three (Φ : Fin 3 → sProp 𝕄) : bigSep Finset.univ Φ = iprop(Φ 0 ∗ Φ 1 ∗ Φ 2) :=
  bigSep_univ_eq_bigSepL [0, 1, 2] (by decide) (by decide) Φ
omit [FloatOps F] in
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem bigSep_bool (Φ : Bool → sProp 𝕄) : bigSep Finset.univ Φ = iprop(Φ false ∗ Φ true) :=
  bigSep_univ_eq_bigSepL [false, true] (by decide) (by decide) Φ

omit [FloatOps F] in
/-- What the lanes hold per slot is what the two directions hold per slot and tile. -/
theorem bigSep_lanes {n : ℕ} (Φ : Bool → Fin n → Fin 4 → sProp 𝕄) :
    (bigSep Finset.univ fun l : Lane => bigSep Finset.univ fun h : Fin n => Φ l.1 h l.2)
      = iprop((bigSep Finset.univ fun hs : Fin n × Fin 4 => Φ false hs.1 hs.2) ∗ bigSep Finset.univ fun hs : Fin n × Fin 4 => Φ true hs.1 hs.2) := by
  rw [BI.bigSep_univ_prod (fun l : Lane => bigSep Finset.univ fun h : Fin n => Φ l.1 h l.2), bigSep_bool,
    BI.bigSep_univ_prod (fun hs : Fin n × Fin 4 => Φ false hs.1 hs.2), BI.bigSep_univ_prod (fun hs : Fin n × Fin 4 => Φ true hs.1 hs.2),
    BI.bigSep_univ_comm (fun (h : Fin n) (s : Fin 4) => Φ false h s), BI.bigSep_univ_comm (fun (h : Fin n) (s : Fin 4) => Φ true h s)]

/-! ## A direction's buffer and its sixteen tiles -/

/-- A direction's buffer, held whole at some contents. -/
def bufAny (c : Dev nD) (d : Bool) : sProp 𝕄 :=
  iprop(∃ f : Buf (Elt F) ((buf d).view.loc (c : Thread nD τ)), (buf d).view.loc (c : Thread nD τ) ↦{fullShare} f)

/-- A tile's set of indices. -/
def tileSet (d : Bool) (c : Dev nD) (hs : Fin 4 × Fin 4) : Finset (Idx ((buf d).view.loc (c : Thread nD τ))) := (piece d hs.1 hs.2).view.set

theorem tile_disjoint (d : Bool) (c : Dev nD) : ∀ b b', b ≠ b' → Disjoint (tileSet d c b) (tileSet d c b') := by
  rintro ⟨h, s⟩ ⟨h', s'⟩ hne
  unfold tileSet
  rw [tile_set, tile_set]
  have key : Disjoint (tileR h s).set (tileR h' s').set := by
    rw [Finset.disjoint_left]
    intro i hi hi'
    have a0 := Rect.mem_set_unit.mp hi 0; have a2 := Rect.mem_set_unit.mp hi 2
    have b0 := Rect.mem_set_unit.mp hi' 0; have b2 := Rect.mem_set_unit.mp hi' 2
    simp at a0 a2 b0 b2
    apply hne
    exact Prod.ext (Fin.ext (by simp only []; omega)) (Fin.ext (by simp only []; omega))
  cases d
  · show Disjoint ((View.whole cc0_scratch1).slice (tileR h s)).set ((View.whole cc0_scratch1).slice (tileR h' s')).set
    rw [View.set_slice_whole, View.set_slice_whole]
    exact key
  · show Disjoint ((View.whole cc0_scratch2).slice (tileR h s)).set ((View.whole cc0_scratch2).slice (tileR h' s')).set
    rw [View.set_slice_whole, View.set_slice_whole]
    exact key

theorem tile_cover (d : Bool) (c : Dev nD) : Finset.univ.biUnion (tileSet d c) = Finset.univ := by
  refine Finset.eq_univ_of_forall fun i => Finset.mem_biUnion.mpr ?_
  have key : ∀ i : S4x1024x1024.Idx, ∃ hs : Fin 4 × Fin 4, i ∈ (tileR hs.1 hs.2).set := fun i => by
    have h0 : (i 0).val < 4 := (i 0).isLt
    have h1 : (i 1).val < 1024 := (i 1).isLt
    have h2 : (i 2).val < 1024 := (i 2).isLt
    refine ⟨(⟨(i 0).val, h0⟩, ⟨(i 2).val / 256, by omega⟩), Rect.mem_set_unit.mpr fun a => ?_⟩
    match a with
    | ⟨0, _⟩ => exact ⟨Nat.le_refl _, Nat.lt_succ_self _⟩
    | ⟨1, _⟩ => exact ⟨Nat.zero_le _, by show (i 1).val < 0 + 1024; omega⟩
    | ⟨2, _⟩ =>
      show 256 * ((i 2).val / 256) ≤ (i 2).val ∧ (i 2).val < 256 * ((i 2).val / 256) + 256
      omega
  cases d
  · obtain ⟨hs, h⟩ := key i
    refine ⟨hs, Finset.mem_univ _, ?_⟩
    unfold tileSet; rw [tile_set]
    show i ∈ ((View.whole cc0_scratch1).slice (tileR hs.1 hs.2)).set
    rw [View.set_slice_whole]
    exact h
  · obtain ⟨hs, h⟩ := key i
    refine ⟨hs, Finset.mem_univ _, ?_⟩
    unfold tileSet; rw [tile_set]
    show i ∈ ((View.whole cc0_scratch2).slice (tileR hs.1 hs.2)).set
    rw [View.set_slice_whole]
    exact h

omit [FloatOps F] in
/-- A buffer is its tiles, -/
theorem buf_cut (c : Dev nD) (d : Bool) : (bufAny c d : sProp 𝕄) ⊢ bigSep Finset.univ fun hs : Fin 4 × Fin 4 => tileAny c d hs.1 hs.2 := by
  unfold bufAny
  iintro ⟨%f, H⟩
  ihave H := (Entails.of_eq (Ring.pointsTo_blocks (tileSet d c) (tile_disjoint d c) (tile_cover d c) f)) $$ H
  have h : (bigSep Finset.univ fun hs => (buf d).view.loc (c : Thread nD τ) ↦[tileSet d c hs]{fullShare} f : sProp 𝕄)
      ⊢ bigSep Finset.univ fun hs : Fin 4 × Fin 4 => tileAny c d hs.1 hs.2 := bigSep_mono fun hs _ => show _ ⊢ (_ : sProp 𝕄) from by
    unfold tileAny
    iintro H
    iexists f
    iexact H
  iapply h
  iexact H

/-- and the tiles make the buffer. -/
theorem buf_join (c : Dev nD) (d : Bool) : (bigSep Finset.univ fun hs : Fin 4 × Fin 4 => tileAny c d hs.1 hs.2) ⊢ (bufAny c d : sProp 𝕄) :=
  Ring.pointsTo_blocks_join_exists (ℓ := (buf d).view.loc (c : Thread nD τ)) (tileSet d c) (tile_disjoint d c) (tile_cover d c)
    (match d with | false => fun _ => (Scalar.ofBits .bf16 0x0000#16 : F .bf16) | true => fun _ => (Scalar.ofBits .bf16 0x0000#16 : F .bf16))

/-! ## The result and its eight tiles -/

/-- A lane's set of indices of the result. -/
def outSet (c : Dev nD) (l : Lane) : Finset (Idx (oM.view.loc (c : Thread nD τ))) := (oM.access (colR l)).set

theorem mem_outSet (c : Dev nD) (l : Lane) (i : S1024x2048.Idx) : i ∈ outSet c l ↔ laneOf (i 1).val = l := by
  unfold outSet
  rw [show (oM.access (colR l)).set = (colR l).set from View.set_slice_whole cc0_stg4_0 (colR l), Rect.mem_set_unit]
  have h0 : (i 0).val < 1024 := (i 0).isLt
  have h1 : (i 1).val < 2048 := (i 1).isLt
  constructor
  · intro h
    have a1 : col l ≤ (i 1).val ∧ (i 1).val < col l + 256 := h 1
    have e : (i 1).val = col l + ((i 1).val - col l) := by omega
    rw [e]
    exact laneOf_col l _ (by omega)
  · rintro rfl a
    match a with
    | ⟨0, _⟩ => exact ⟨Nat.zero_le _, by show (i 0).val < 0 + 1024; omega⟩
    | ⟨1, _⟩ =>
      show col (laneOf (i 1).val) ≤ (i 1).val ∧ (i 1).val < col (laneOf (i 1).val) + 256
      unfold col laneOf
      by_cases h : 1024 ≤ (i 1).val
      · simp only [h, decide_true, cond_true]; omega
      · simp only [h, decide_false, cond_false]; omega

theorem out_disjoint (c : Dev nD) : ∀ b b', b ≠ b' → Disjoint (outSet c b) (outSet c b') := fun b b' hne =>
  Finset.disjoint_left.mpr fun i hi hi' => hne (((mem_outSet c b i).mp hi).symm.trans ((mem_outSet c b' i).mp hi'))

theorem out_cover (c : Dev nD) : Finset.univ.biUnion (outSet c) = Finset.univ :=
  Finset.eq_univ_of_forall fun i => Finset.mem_biUnion.mpr ⟨laneOf (i 1).val, Finset.mem_univ _, (mem_outSet c _ i).mpr rfl⟩

omit [FloatOps F] in
/-- The result's buffer is its tiles. -/
theorem out_cut (c : Dev nD) (f : Buf (Elt F) (oM.view.loc (c : Thread nD τ))) :
    (oM.view.loc (c : Thread nD τ) ↦{fullShare} f : sProp 𝕄) ⊢ bigSep Finset.univ fun l : Lane => outAny c l := by
  rw [Ring.pointsTo_blocks (outSet c) (out_disjoint c) (out_cover c) f]
  refine bigSep_mono fun l _ => show _ ⊢ (_ : sProp 𝕄) from ?_
  unfold outAny
  iintro H
  iexists f
  iexact H

/-- The finished tiles make the finished block. -/
theorem out_join (c : Dev nD) :
    (bigSep Finset.univ fun l : Lane => outDone m c l) ⊢ (oM.view.loc (c : Thread nD τ) ↦{fullShare} (outAt m c) : sProp 𝕄) :=
  Entails.of_eq (Ring.pointsTo_blocks (ℓ := oM.view.loc (c : Thread nD τ)) (outSet c) (out_disjoint c) (out_cover c) (outAt m c)).symm

/-! ## The lanes at the start and at the end -/

/-- A hop's part of the ghost state a device starts from; -/
def hopGhost (c : Dev nD) (l : Lane) (h : Fin 3) : sProp 𝕄 :=
  iprop(dutyTok ER (sendCell c l h) 0 false ∗ dutyTok ER (recvCell (peer l.1 c) l h) 0 false
    ∗ atPos ER (sendCell c l h) 0 ∅ 0 ∗ atPos ER (recvCell c l h) 0 ∅ 0)
/-- the credit of its receive semaphore; -/
def hopCred (c : Dev nD) (l : Lane) (h : Fin 3) : sProp 𝕄 := cred (tallyAt (recvCell c l h) () N)
/-- its destination. -/
def hopBuf (c : Dev nD) (d : Bool) (h : Fin 3) (s : Fin 4) : sProp 𝕄 := tileAny (peer d c) d h.succ s
/-- Its two semaphores at the end, their rounds over; -/
def hopOver (c : Dev nD) (l : Lane) (h : Fin 3) : sProp 𝕄 := iprop(atPos ER (sendCell c l h) 1 ∅ 0 ∗ atPos ER (recvCell c l h) 1 ∅ 0)
/-- closed. -/
def hopClosed (c : Dev nD) (l : Lane) (h : Fin 3) : sProp 𝕄 := iprop(semVal (sendCell c l h) 0 ∗ semVal (recvCell c l h) 0)

/-- A lane before its first stage. -/
theorem lane_start (c : Dev nD) (l : Lane) :
    iprop(outAny c l ∗ tileAny c l.1 0 l.2 ∗ (bigSep Finset.univ fun h => hopGhost c l h) ∗ (bigSep Finset.univ fun h => hopCred c l h)
        ∗ bigSep Finset.univ fun h => hopBuf c l.1 h l.2)
      ⊢ LaneSt m c l 0 := by
  rw [bigSep_three, bigSep_three, bigSep_three]
  unfold hopGhost hopCred hopBuf
  simp only [LaneSt, sndTodo, rcvTodo]
  iintro ⟨Ho, Ht, ⟨⟨a0, b0, c0, d0⟩, ⟨a1, b1, c1, d1⟩, ⟨a2, b2, c2, d2⟩⟩, ⟨e0, e1, e2⟩, ⟨f0, f1, f2⟩⟩
  iframe

/-- A lane after its last. -/
theorem lane_end (c : Dev nD) (l : Lane) :
    LaneSt m c l 6 ⊢ iprop(outDone m c l ∗ (bigSep Finset.univ fun h : Fin 4 => tileAny c l.1 h l.2) ∗ bigSep Finset.univ fun h => hopOver c l h) := by
  rw [bigSep_three, bigSep_four]
  unfold hopOver
  simp only [LaneSt, sndDone, rcvDone]
  iintro ⟨Ho, Ht, ⟨⟨a0, b0⟩, ⟨a1, b1⟩, ⟨a2, b2⟩⟩, ⟨e0, e1, e2⟩⟩
  isplitl [Ho]; · iexact Ho
  isplitl [Ht b0 b1 b2]
  · isplitl [b0]; · iexact b0
    isplitl [b1]; · iexact b1
    isplitl [b2]; · iexact b2
    iexact Ht
  iframe

end Cert.KernelIdeal.Body

end

end
-- ==== Proof.KernelIdeal.Body.lean ====
/-
The whole kernel on one device: the handshake, the lanes' stages, and the semaphores closed at the end.
-/
module

public import proofs.«01_k».proof.Proof.KernelIdeal.Tiles

@[expose] public section

noncomputable section

namespace Cert.KernelIdeal.Body

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Cell → ℕ)

/-! ## What a device starts with and ends with -/

/-- What a device owes at the start: its hops' raises, and a unit to each neighbour's barrier. -/
def O₀ (c : Dev nD) : CellTallies nD τ sig Unit :=
  ((∑ l : Lane, owed c l 0) + tallyAt (barCell (peer false c)) () 1) + tallyAt (barCell (peer true c)) () 1

/-- The ghost state a device alone holds at the start. -/
def lin (c : Dev nD) : sProp 𝕄 :=
  iprop(atPos ER (barCell c) 0 ∅ 0 ∗ dutyTok ER (barCell (peer true c)) 0 false ∗ dutyTok ER (barCell (peer false c)) 0 true
    ∗ bigSep Finset.univ fun l : Lane => bigSep Finset.univ fun h => hopGhost c l h)

/-- Its credits. -/
def creds (c : Dev nD) : sProp 𝕄 :=
  iprop(cred (tallyAt (barCell c) () 2) ∗ bigSep Finset.univ fun l : Lane => bigSep Finset.univ fun h => hopCred c l h)

/-- Its protocol semaphores at zero, at the end. -/
def closed (c : Dev nD) : sProp 𝕄 :=
  iprop(semVal (barCell c) 0 ∗ bigSep Finset.univ fun l : Lane => bigSep Finset.univ fun h => hopClosed c l h)

/-- The copy of `w`, at some contents; -/
def wbAny (c : Dev nD) : sProp 𝕄 :=
  iprop(∃ f : Buf (Elt F) (wbM.view.loc (c : Thread nD τ)), wbM.view.loc (c : Thread nD τ) ↦{fullShare} f)
/-- the staged block of `w` and the two scales. -/
def wArg (c : Dev nD) : sProp 𝕄 := wM.view.loc (c : Thread nD τ) ↦{fullShare} (wstg m c)
def sxArg (c : Dev nD) : sProp 𝕄 := sxM.view.loc (c : Thread nD τ) ↦{fullShare} (sxstg m c)
def swArg (c : Dev nD) : sProp 𝕄 := swM.view.loc (c : Thread nD τ) ↦{fullShare} (swstg m c)

/-! ## Buffers to lanes -/

/-- A buffer is its slot 0 and what a barrier signal hands over. -/
theorem buf_slots (c : Dev nD) (d : Bool) : (bufAny c d : sProp 𝕄)
    ⊢ iprop((bigSep Finset.univ fun s : Fin 4 => tileAny c d 0 s) ∗ bigSep Finset.univ fun hs : Fin 3 × Fin 4 => tileAny c d hs.1.succ hs.2) := by
  refine (buf_cut c d).trans (show _ ⊢ (_ : sProp 𝕄) from ?_)
  rw [BI.bigSep_univ_prod (fun hs : Fin 4 × Fin 4 => tileAny c d hs.1 hs.2), bigSep_four,
    BI.bigSep_univ_prod (fun hs : Fin 3 × Fin 4 => tileAny c d hs.1.succ hs.2), bigSep_three]
  exact BI.Entails.refl _

/-- What a device hands its neighbour with a signal is the neighbour's barrier payload. -/
theorem barPay_give (c : Dev nD) (d : Bool) :
    (bigSep Finset.univ fun hs : Fin 3 × Fin 4 => tileAny c d hs.1.succ hs.2 : sProp 𝕄) = barPay (peer (!d) c) d := by
  unfold barPay
  rw [peer_peer']

/-- The lanes before their first stage. -/
theorem lanes_start (c : Dev nD) (f : Buf (Elt F) (oM.view.loc (c : Thread nD τ))) :
    iprop((oM.view.loc (c : Thread nD τ) ↦{fullShare} f)
        ∗ (bigSep Finset.univ fun s : Fin 4 => tileAny c false 0 s) ∗ (bigSep Finset.univ fun s : Fin 4 => tileAny c true 0 s)
        ∗ (bigSep Finset.univ fun l : Lane => bigSep Finset.univ fun h => hopGhost c l h)
        ∗ (bigSep Finset.univ fun l : Lane => bigSep Finset.univ fun h => hopCred c l h) ∗ barPay c false ∗ barPay c true)
      ⊢ bigSep Finset.univ fun l : Lane => LaneSt m c l 0 := by
  have hb : (bigSep Finset.univ fun l : Lane => bigSep Finset.univ fun h => hopBuf c l.1 h l.2) = iprop(barPay (F := F) c false ∗ barPay c true) :=
    bigSep_lanes (hopBuf c)
  have ht : (bigSep Finset.univ fun l : Lane => tileAny (F := F) c l.1 0 l.2)
      = iprop((bigSep Finset.univ fun s : Fin 4 => tileAny c false 0 s) ∗ bigSep Finset.univ fun s : Fin 4 => tileAny c true 0 s) := by
    rw [BI.bigSep_univ_prod (fun l : Lane => tileAny (F := F) c l.1 0 l.2), bigSep_bool]
  have hm : _ ⊢ (_ : sProp 𝕄) := bigSep_mono (s := Finset.univ) fun (l : Lane) _ => lane_start m c l
  rw [bigSep_sep', bigSep_sep', bigSep_sep', bigSep_sep', hb, ht] at hm
  iintro ⟨Ho, H0, H1, Hg, Hc, Hb⟩
  iapply hm
  isplitl [Ho]; · iapply (out_cut c f); iexact Ho
  isplitl [H0 H1]; · isplitl [H0] <;> iassumption
  isplitl [Hg]; · iexact Hg
  isplitl [Hc]; · iexact Hc
  iexact Hb

/-- The lanes after their last. -/
theorem lanes_end (c : Dev nD) :
    (bigSep Finset.univ fun l : Lane => LaneSt m c l 6)
      ⊢ iprop((oM.view.loc (c : Thread nD τ) ↦{fullShare} (outAt m c)) ∗ bufAny c false ∗ bufAny c true
          ∗ bigSep Finset.univ fun l : Lane => bigSep Finset.univ fun h => hopOver c l h) := by
  have hm : _ ⊢ (_ : sProp 𝕄) := bigSep_mono (s := Finset.univ) fun (l : Lane) _ => lane_end m c l
  rw [bigSep_sep', bigSep_sep', bigSep_lanes (fun d (h : Fin 4) s => tileAny (F := F) c d h s)] at hm
  refine hm.trans (show _ ⊢ (_ : sProp 𝕄) from ?_)
  iintro ⟨Ho, ⟨H0, H1⟩, Hh⟩
  isplitl [Ho]; · iapply (out_join m c); iexact Ho
  isplitl [H0]; · iapply (buf_join c false); iexact H0
  isplitl [H1]; · iapply (buf_join c true); iexact H1
  iexact Hh

/-- A hop's two semaphores close. -/
theorem close_hop (c : Dev nD) (l : Lane) (h : Fin 3) : iprop(records m K ∗ hopOver c l h) ⊢ |={Set.univ}=> hopClosed c l h := by
  unfold hopOver hopClosed
  iintro ⟨#HR, HS, HV⟩
  imod (Rounds.cell_close ER (ringRd m) (Set.mem_univ (K (c, some (false, l.1, h, l.2)))) (fun h => h) (R := 1) (duties_later m (sendCell c l h))) $$ [HS] with HzS
  · isplitr; · iapply (inv_at m K c (some (false, l.1, h, l.2))); iexact HR
    iexact HS
  imod (Rounds.cell_close ER (ringRd m) (Set.mem_univ (K (c, some (true, l.1, h, l.2)))) (fun h => h) (R := 1) (duties_later m (recvCell c l h))) $$ [HV] with HzV
  · isplitr; · iapply (inv_at m K c (some (true, l.1, h, l.2))); iexact HR
    iexact HV
  imodintro
  isplitl [HzS] <;> iassumption

/-- A family of updates, each using the same records. -/
theorem bigSep_upd {I : Type} [DecidableEq I] {S : Finset I} {R : sProp 𝕄} [BI.Persistent R] {Φ Ψ : I → sProp 𝕄}
    (h : ∀ i ∈ S, iprop(R ∗ Φ i) ⊢ |={Set.univ}=> Ψ i) : iprop(R ∗ bigSep S Φ) ⊢ |={Set.univ}=> bigSep S Ψ :=
  (sep_mono_left (BI.bigSep_of_persistent S R)).trans (by rw [← bigSep_sep']; exact (bigSep_mono h).trans (bigSep_fupd _ _))

/-- All the hops' semaphores close. -/
theorem close_hops (c : Dev nD) :
    iprop(records m K ∗ bigSep Finset.univ fun l : Lane => bigSep Finset.univ fun h => hopOver c l h)
      ⊢ |={Set.univ}=> bigSep Finset.univ fun l : Lane => bigSep Finset.univ fun h => hopClosed c l h :=
  bigSep_upd fun l _ => bigSep_upd fun h _ => close_hop m K c l h

/-! ## The kernel -/

theorem early_runs : Runs (fun _ => 0) early := by decide
theorem late_runs : Runs (fun _ => 3) late := by decide
theorem early_after : after (fun _ => 0) early = fun _ => 3 := by funext l; revert l; decide
theorem late_after : after (fun _ => 3) late = fun _ => 6 := by funext l; revert l; decide

theorem hz1 : (![0] : Fin 1 → Nat) = fun _ => 0 := funext fun a => by fin_cases a <;> rfl
theorem hz2 : (![0, 0] : Fin 2 → Nat) = fun _ => 0 := funext fun a => by fin_cases a <;> rfl

/-- A whole 1024 × 2048 array. -/
abbrev allR : Rect S1024x2048 := Rect.unit (s := S1024x2048) ![0, 0] S1024x2048.size inb_S1024x2048_S1024x2048_0_0

theorem pay_self (w : Vec F S1024x2048 .fp8e5m2) : k0_pay1 (F := F) w = w := by
  unfold k0_pay1
  simp only [shapeCast_self]

/-- What is stored as the copy of `w` is `w`. -/
theorem write_wb (c : Dev nD) (f : wbM.view.ty.Contents (Elt F)) :
    (wbM.access allR).write (Elt F) f (k0_pay1 (F := F) (wM.view.readAt (Elt F) allR.toLoadRect (wstg m c))) Finset.univ = wstg m c := by
  refine (Memref.write_access_unit_zero_univ (Elt F) cc0_scratch0 hz2 _ f _).trans ?_
  exact (pay_self _).trans (Memref.readAt_unit_zero (Elt F) cc0_stg1_0 hz2 _ (wstg m c))

/-- The product of the scales the kernel reads. -/
theorem read_scales (c : Dev nD) :
    Scalar.mulf (sxM.view.readAt (Elt F) (Rect.unit (s := S1) ![0] S1.size inb_S1_S1_0).toLoadRect (sxstg m c) (Shape.Idx.first (by decide)))
      (swM.view.readAt (Elt F) (Rect.unit (s := S1) ![0] S1.size inb_S1_S1_0).toLoadRect (swstg m c) (Shape.Idx.first (by decide))) = alpha m c := by
  unfold alpha
  congr 1
  · exact congrFun (Memref.readAt_unit_zero (Elt F) cc0_stg2_0 hz1 _ (sxstg m c)) _
  · exact congrFun (Memref.readAt_unit_zero (Elt F) cc0_stg3_0 hz1 _ (swstg m c)) _

/-- The kernel on device `c`. -/
theorem wp_prog (c : Dev nD) (Q : PUnit → sProp 𝕄) (f : Buf (Elt F) (oM.view.loc (c : Thread nD τ))) :
    iprop((records m K ∗ levAts L lv ∗ lin c ∗ creds c) ∗ (wbAny c ∗ bufAny c false ∗ bufAny c true) ∗ debt c (O₀ c)
        ∗ (xPts m c ∗ wArg m c ∗ sxArg m c ∗ swArg m c) ∗ (oM.view.loc (c : Thread nD τ) ↦{fullShare} f))
      ⊢ iprop(((wbAny c ∗ bufAny c false ∗ bufAny c true ∗ closed c) ∗ debt c 0
          ∗ (xPts m c ∗ wArg m c ∗ sxArg m c ∗ swArg m c) ∗ (oM.view.loc (c : Thread nD τ) ↦{fullShare} (outAt m c)) -∗ Q ⟨⟩)
        -∗ WP c prog Q) := by
  unfold prog lin creds wbAny wArg sxArg swArg debt O₀
  simp only [semSignalWord, semWaitWord, smemLoad, Prog.lift, Prog.bind_op, Prog.bind_ret, Prog.pure_eq_ret, wp_deviceId, dev1_eq c, dev2_eq c]
  iintro ⟨⟨#HR, #Hlev, ⟨HatB, HtN, HtP, Hg⟩, HcB, Hc⟩, ⟨⟨%fw, Hwb⟩, Hb0, Hb1⟩, ⟨%W, HO⟩, ⟨Hx, Hw, Hsx, Hsw⟩, Hout⟩ Hk
  ihave Hb0 := (buf_slots c false) $$ Hb0
  ihave Hb1 := (buf_slots c true) $$ Hb1
  icases Hb0 with ⟨Hz0, Hb0⟩
  icases Hb1 with ⟨Hz1, Hb1⟩
  -- the two signals, each with the buffer the neighbour will write
  iapply (Rounds.wp_signal 𝒱₀ ER (ringRd m) (c : Thread nD τ) none (dst := (peer true c : Thread nD τ)) (κ := K (peer true c, none))
      (d := false) (by rw [duties_bar]; exact Finset.mem_univ _) ((amount_bar m (peer true c) false).trans (by decide)) ()
      ((∑ l : Lane, owed c l 0) + tallyAt (barCell (peer false c)) () 1) rfl) $$ [HO HtN Hb0]
  · isplitr; · iapply (inv_at m K (peer true c) none); iexact HR
    isplitl [HO]; · iexact HO
    isplitl [HtN]; · iexact HtN
    isplitl [Hb0]
    · rw [payload_bar]
      iapply (Entails.of_eq (barPay_give c false)); iexact Hb0
    iapply (reached_at m K (peer true c) none); iexact HR
  iintro HO
  iapply (Rounds.wp_signal 𝒱₀ ER (ringRd m) (c : Thread nD τ) none (dst := (peer false c : Thread nD τ)) (κ := K (peer false c, none))
      (d := true) (by rw [duties_bar]; exact Finset.mem_univ _) ((amount_bar m (peer false c) true).trans (by decide)) ()
      (∑ l : Lane, owed c l 0) rfl) $$ [HO HtP Hb1]
  · isplitr; · iapply (inv_at m K (peer false c) none); iexact HR
    isplitl [HO]; · iexact HO
    isplitl [HtP]; · iexact HtP
    isplitl [Hb1]
    · rw [payload_bar]
      iapply (Entails.of_eq (barPay_give c true)); iexact Hb1
    iapply (reached_at m K (peer false c) none); iexact HR
  iintro HO
  -- the copy of `w`
  iapply (wp_load 𝒱₀ (c : Thread nD τ) none Set.univ (m := wM) (Finset.subset_univ _)) $$ Hw; iintro Hw
  iapply (wp_load 𝒱₀ (c : Thread nD τ) none Set.univ (m := wbM) (Finset.subset_univ _)) $$ Hwb; iintro Hwb
  iapply (wp_store 𝒱₀ (c : Thread nD τ) none Set.univ (m := wbM) (r := allR) (Mk := Finset.univ) (S := Finset.univ) (Finset.subset_univ _)) $$ Hwb; iintro Hwb
  -- the wait for both neighbours
  iapply (Rounds.wp_wait_rest_token 𝒱₀ ER (ringRd m) (c : Thread nD τ) none (κ := K (c, none))
      (wpE_semWait_eq 𝒱₀ (c : Thread nD τ) none Set.univ) (Set.mem_univ _) () (O := ∑ l : Lane, owed c l 0) (W := W) (R := 0) (m := 0) (T := ∅)
      (by rw [expect_bar]; decide)) $$ [HcB HO HatB]
  · isplitr; · iapply (inv_at m K c none); iexact HR
    isplitl [HcB]; · iexact HcB
    isplitl [HO]; · iexact HO
    isplitr
    · iapply (mayWait c (.reg barS) (by rw [lv_bar c ()]; exact Above.sum _ fun l _ => above_owed c l 0 (by decide))); iexact Hlev
    iexact HatB
  iintro ⟨HO, HatB, -, Hpay⟩
  ihave Hp := (Entails.of_eq (rest_bar m c)) $$ Hpay
  icases Hp with ⟨Hp0, Hp1⟩
  ihave HL := (lanes_start m c f) $$ [Hout Hz0 Hz1 Hg Hc Hp0 Hp1]
  · iframe
  ihave Hwb := (Entails.of_eq (congrArg (fun g => (wbM.view.loc (c : Thread nD τ) ↦[Finset.univ]{fullShare} g : sProp 𝕄)) (write_wb m c fw))) $$ Hwb
  -- the early stages
  iapply (wp_run m K c _ _ _ early (fun _ => 0) early_runs (fun p hp h => absurd h ((by decide : ∀ p ∈ early, p.2 ≠ 3) p hp))) $$ [Hx Hwb HL HO]
  · unfold Common wPts Lanes debt
    isplitl [Hx Hwb]
    · isplitr; · iexact HR
      isplitr; · iexact Hlev
      isplitl [Hx] <;> iassumption
    isplitl [HO]
    · iexists _; iexact HO
    iexact HL
  rw [early_after]
  iintro HC HL
  -- the scales
  iapply (wp_load 𝒱₀ (c : Thread nD τ) none Set.univ (m := sxM) (Finset.subset_univ _)) $$ Hsx; iintro Hsx
  iapply (wp_load 𝒱₀ (c : Thread nD τ) none Set.univ (m := swM) (Finset.subset_univ _)) $$ Hsw; iintro Hsw
  simp only [Prog.bind]
  rw [← bind_pure (run _ c late)]
  -- the late stages
  iapply (wp_run m K c _ _ _ late (fun _ => 3) late_runs (fun _ _ _ => read_scales m c)) $$ [HC HL]
  · isplitl [HC] <;> iassumption
  rw [late_after]
  iintro HC HL
  unfold Common Lanes
  icases HC with ⟨-, -, Hx, Hwb⟩
  icases HL with ⟨HO, HL⟩
  ihave HL := (lanes_end m c) $$ HL
  icases HL with ⟨Hout, Hb0, Hb1, Hh⟩
  unfold WP
  rw [Prog.pure_eq_ret, wp_ret]
  imod (close_hops m K c) $$ [Hh] with Hh
  · isplitr; · iexact HR
    iexact Hh
  imod (Rounds.cell_close ER (ringRd m) (Set.mem_univ (K (c, none))) (fun h => h) (R := 0 + 1) (duties_later m (barCell c))) $$ [HatB] with HzB
  · isplitr; · iapply (inv_at m K c none); iexact HR
    iexact HatB
  imodintro
  iapply Hk
  unfold closed wPts
  isplitl [Hwb Hb0 Hb1 Hh HzB]
  · isplitl [Hwb]; · iexists _; iexact Hwb
    iframe
  isplitl [HO]
  · rw [show (∑ l : Lane, owed c l 6) = 0 from Finset.sum_eq_zero fun _ _ => rfl]
    unfold debt
    iexact HO
  iframe

end Cert.KernelIdeal.Body

end

end
-- ==== Proof.KernelIdeal.Launch.lean ====
/-
The launch: the kernel's one region run from any memory with zero semaphores, and what every final state holds.
-/
module

public import proofs.«01_k».proof.Proof.KernelIdeal.Body
public import Idealize.ShloMosaic.Lib.StableHlo.RunHlo
public import Idealize.ShloMosaic.Lib.Pipeline.CollectiveSegs

@[expose] public section

noncomputable section

namespace Cert.KernelIdeal.Body

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

/-- What a device's body starts from: the records, its own ghost state, its credits and the levels. -/
def start (c : Dev nD) : sProp 𝕄 := iprop((∃ K, records m K ∗ lin c) ∗ creds c ∗ levAts L lv)

/-- Before the body: that, and the scratch buffers. -/
def Φ₀ (c : Dev nD) : sProp 𝕄 := iprop(start m c ∗ wbAny c ∗ bufAny c false ∗ bufAny c true)
/-- After it: the scratch buffers and the semaphores closed. -/
def Φ₁ (c : Dev nD) : sProp 𝕄 := iprop(wbAny c ∗ bufAny c false ∗ bufAny c true ∗ closed c)

/-- The arrays as launched; the staged blocks after the body; what is owed before and after. -/
def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => wstg m c
    | ⟨2, _⟩ => sxstg m c
    | ⟨3, _⟩ => swstg m c
    | ⟨4, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- A staging buffer that holds `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
/-- Owning the whole of such a buffer at `X` is that. -/
theorem owns_stg (c : Dev nD) (b : Ref sig .tc) (X : b.ty.Contents (Elt F)) :
    (owns (c : Thread nD τ) (Memref.whole b) fullShare X : sProp 𝕄) = stg c b X := by
  unfold owns
  rw [Memref.view_whole, View.set_whole]
  simp only [View.read_whole]

/-- The body's start as the pipeline states it; -/
def bodyPre (c : Dev nD) : sProp 𝕄 :=
  iprop(Φ₀ m c ∗ (dats m 0 c).owesAt () t0_0.castSucc
    ∗ (∃ d, stg c cc0_stg0_0 ((dats m 0 c).before (0 : Fin 5) t0_0 d))
    ∗ (∃ d, stg c cc0_stg1_0 ((dats m 0 c).before (1 : Fin 5) t0_0 d))
    ∗ (∃ d, stg c cc0_stg2_0 ((dats m 0 c).before (2 : Fin 5) t0_0 d))
    ∗ (∃ d, stg c cc0_stg3_0 ((dats m 0 c).before (3 : Fin 5) t0_0 d))
    ∗ (∃ d, stg c cc0_stg4_0 ((dats m 0 c).before (4 : Fin 5) t0_0 d)))
/-- its end. -/
def bodyPost (c : Dev nD) : sProp 𝕄 :=
  iprop(Φ₁ c ∗ (dats m 0 c).owesAt () t0_0.succ ∗ stg c cc0_stg0_0 (xstg m c) ∗ stg c cc0_stg1_0 (wstg m c)
    ∗ stg c cc0_stg2_0 (sxstg m c) ∗ stg c cc0_stg3_0 (swstg m c) ∗ stg c cc0_stg4_0 (outAt m c))

/-- The kernel between them. -/
theorem sound_body (c : Dev nD) : bodyPre m c ⊢ WP c prog fun _ => bodyPost m c := by
  unfold bodyPre Φ₀ start
  iintro ⟨⟨⟨⟨%K, #HR, Hlin⟩, Hc, #Hlev⟩, Hs⟩, Ho, ⟨%d0, %g0, %h0, Hx⟩, ⟨%d1, %g1, %h1, Hw⟩, ⟨%d2, %g2, %h2, Hsx⟩, ⟨%d3, %g3, %h3, Hsw⟩, ⟨%d4, %g4, %h4, Hout⟩⟩
  have e0 : g0 = xstg m c := by rw [h0]; unfold Dat.before; rw [if_pos (fetch0_0 t0_0)]; rfl
  have e1 : g1 = wstg m c := by rw [h1]; unfold Dat.before; rw [if_pos (fetch0_1 t0_0)]; rfl
  have e2 : g2 = sxstg m c := by rw [h2]; unfold Dat.before; rw [if_pos (fetch0_2 t0_0)]; rfl
  have e3 : g3 = swstg m c := by rw [h3]; unfold Dat.before; rw [if_pos (fetch0_3 t0_0)]; rfl
  subst e0 e1 e2 e3
  unfold Dat.owesAt Pipeline.owesWithin
  icases Ho with ⟨%W, %hW, HO⟩
  iapply (wp_prog m K c _ g4) $$ [Hlin Hc Hs HO Hx Hw Hsx Hsw Hout]
  · unfold debt xPts wArg sxArg swArg
    isplitl [Hlin Hc]
    · isplitr; · iexact HR
      isplitr; · iexact Hlev
      isplitl [Hlin] <;> iassumption
    isplitl [Hs]; · iexact Hs
    isplitl [HO]; · iexists W; iexact HO
    isplitl [Hx Hw Hsx Hsw]
    · isplitl [Hx]; · iexact Hx
      isplitl [Hw]; · iexact Hw
      isplitl [Hsx]; · iexact Hsx
      iexact Hsw
    iexact Hout
  unfold debt xPts wArg sxArg swArg
  iintro ⟨HΦ, ⟨%W', HO⟩, ⟨Hx, Hw, Hsx, Hsw⟩, Hout⟩
  unfold bodyPost Φ₁ Dat.owesAt Pipeline.owesWithin
  isplitl [HΦ]; · iexact HΦ
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  isplitl [Hsx]
  · iexists _; isplitr; · (ipureintro; rfl)
    iexact Hsx
  isplitl [Hsw]
  · iexists _; isplitr; · (ipureintro; rfl)
    iexact Hsw
  iexists _; isplitr; · (ipureintro; rfl)
  iexact Hout

set_option maxRecDepth 100000 in
/-- The pipeline's body obligation. -/
theorem body_obligation (c : Dev nD) : BodyObligation (dats (F := F) m 0 c) (defs₀ (F := F)) 𝒱₀ () Set.univ := fun t => by
  rw [fin_N0 t]
  rw [bigSep_W0, bigSep_W0]
  simp only [owns_stg]
  show bodyPre m c ⊢ wp frame (wpE (defs₀ (F := F)) 𝒱₀ c none) Set.univ (bodyAt0 (F := F) t0_0) (fun _ => bodyPost m c)
  rw [body_eq]
  exact sound_body m c

/-! ## Sums over the protocol's semaphores -/

/-- Over all: the barrier, and the rest; -/
theorem bigSep_cell (Φ : Cell → sProp 𝕄) : bigSep Finset.univ Φ = iprop(Φ none ∗ bigSep Finset.univ fun x : Xf => Φ (some x)) := by
  rw [BI.bigSep_univ_equiv (Equiv.optionEquivSumPUnit.{0} Xf).symm Φ, BI.bigSep_univ_sum, BI.bigSep_univ_of_subsingleton PUnit.unit]
  exact BI.Entails.antisymm BI.sep_comm BI.sep_comm

/-- the rest, lane by lane and hop by hop. -/
theorem bigSep_xf (Φ : Xf → sProp 𝕄) : bigSep Finset.univ Φ
    = iprop((bigSep Finset.univ fun l : Lane => bigSep Finset.univ fun h : Fin 3 => Φ (false, l.1, h, l.2))
        ∗ bigSep Finset.univ fun l : Lane => bigSep Finset.univ fun h : Fin 3 => Φ (true, l.1, h, l.2)) := by
  have hd : ∀ r : Bool, (bigSep Finset.univ fun y : Bool × Fin 3 × Fin 4 => Φ (r, y))
      = bigSep Finset.univ fun l : Lane => bigSep Finset.univ fun h : Fin 3 => Φ (r, l.1, h, l.2) := fun r => by
    rw [BI.bigSep_univ_prod (fun y : Bool × Fin 3 × Fin 4 => Φ (r, y)), bigSep_bool]
    exact (bigSep_lanes (fun d h s => Φ (r, d, h, s))).symm
  rw [BI.bigSep_univ_prod, bigSep_bool, hd, hd]

/-- A sum over devices, lanes and hops may be taken at each lane's neighbour instead. -/
theorem bigSep_around (Φ : Dev nD → Lane → Fin 3 → sProp 𝕄) :
    (bigSep Finset.univ fun c : Dev nD => bigSep Finset.univ fun l : Lane => bigSep Finset.univ fun h => Φ c l h)
      = bigSep Finset.univ fun c : Dev nD => bigSep Finset.univ fun l : Lane => bigSep Finset.univ fun h => Φ (peer l.1 c) l h := by
  rw [BI.bigSep_univ_comm (fun (c : Dev nD) (l : Lane) => bigSep Finset.univ fun h => Φ c l h),
    BI.bigSep_univ_comm (fun (c : Dev nD) (l : Lane) => bigSep Finset.univ fun h => Φ (peer l.1 c) l h)]
  exact bigSep_congr fun l _ => BI.bigSep_univ_equiv (ring l.1) (fun c => bigSep Finset.univ fun h => Φ c l h)

/-! ## The ghost state dealt at launch -/

theorem ownSemFacts : Pipeline.OwnSemFacts cfg0.spec osem :=
  ⟨by decide +kernel, osem_injective, fun k w s => by revert k w s; decide +kernel⟩

theorem share_eq (c : Dev nD) (w : Fin cfg0.W) : (dats m 0 c).share w = fullShare := by unfold Dat.share; split <;> rfl

/-- The protocol's semaphores on the machine. -/
def ringCells : Finset (GSem nD τ sig) := Finset.univ.map ⟨fun ck : Dev nD × Cell => kcell ck.1 ck.2, fun a b e => Prod.ext (kcell_injective e).1 (kcell_injective e).2⟩

/-- The duties: a barrier's two, and each other semaphore's one. -/
abbrev Duty : Type := Bool ⊕ Xf
abbrev tokOf (cj : Dev nD × Duty) : GSem nD τ sig × ℕ × Bool := match cj.2 with
  | .inl d => (barCell cj.1, 0, d)
  | .inr x => (kcell cj.1 (some x), 0, false)
theorem tokOf_injective : Function.Injective tokOf := by
  rintro ⟨c, d | x⟩ ⟨c', d' | x'⟩ e
  · obtain ⟨rfl, -⟩ := kcell_injective (k := none) (k' := none) (congrArg Prod.fst e)
    have : d = d' := congrArg (fun t : GSem nD τ sig × ℕ × Bool => t.2.2) e
    rw [this]
  · exact absurd (kcell_injective (k := none) (k' := some x') (congrArg Prod.fst e)).2 (by simp)
  · exact absurd (kcell_injective (k := some x) (k' := none) (congrArg Prod.fst e)).2 (by simp)
  · obtain ⟨rfl, h⟩ := kcell_injective (k := some x) (k' := some x') (congrArg Prod.fst e)
    rw [Option.some.inj h]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of a device's own semaphores. -/
def toks (c : Dev nD) : sProp 𝕄 :=
  iprop((dutyTok ER (barCell c) 0 false ∗ dutyTok ER (barCell c) 0 true)
    ∗ (bigSep Finset.univ fun l : Lane => bigSep Finset.univ fun h => dutyTok ER (sendCell c l h) 0 false)
    ∗ bigSep Finset.univ fun l : Lane => bigSep Finset.univ fun h => dutyTok ER (recvCell c l h) 0 false)

/-- What the launch deals a device, -/
def G (c : Dev nD) : sProp 𝕄 :=
  iprop((bigSep Finset.univ fun k : Cell => roundState ER (ringRd m) (kcell c k) 0)
    ∗ (bigSep Finset.univ fun k : Cell => iprop(atPos ER (kcell c k) 0 ∅ 0 ∗ reached ER (kcell c k) 0)) ∗ toks c)

/-- and what it is made into, all devices at once. -/
def G' (c : Dev nD) : sProp 𝕄 := iprop(∃ K, records m K ∗ lin c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Cell => Φ (kcell c k) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks
    rw [BI.bigSep_univ_sum, bigSep_bool, bigSep_xf]
    rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier is the only semaphore outside the kernel's own. -/
theorem unscopedSems0_eq (c : Dev nD) : (unscopedSems0 c : sProp 𝕄) = semVal (barCell c) 0 := by
  unfold unscopedSems0; rw [bigSep_eq_bigSepL_of_eq [SemLoc.reg barS] (by decide +kernel) (by decide +kernel)]; rfl

theorem ownSems0_eq (c : Dev nD) : (Pipeline.ownSems0 (Ix := Unit) (Name := ℕ) (U := UU) (Lvl := ℕ) (Val := Elt F) (τ := τ) osem c : sProp 𝕄)
    = bigSep Finset.univ fun x : Xf => semVal (kcell c (some x)) 0 := rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Cell => semVal (kcell c k) 0 : sProp 𝕄) := by
  rw [ownSems0_eq, unscopedSems0_eq, bigSep_cell]
  iintro ⟨HS, HB⟩
  isplitl [HB]; · iexact HB
  iexact HS

/-- A device's semaphores become invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Cell => iprop(∃ κ : ℕ, cellInv ER (ringRd m) κ (kcell c k)))
          ∗ (bigSep Finset.univ fun k : Cell => iprop(atPos ER (kcell c k) 0 ∅ 0 ∗ reached ER (kcell c k) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Cell => semVal (kcell c k) 0) ∗ bigSep Finset.univ fun k : Cell => roundState ER (ringRd m) (kcell c k) 0)
      ⊢ (|={Set.univ}=> bigSep Finset.univ fun k : Cell => iprop(∃ κ : ℕ, cellInv ER (ringRd m) κ (kcell c k)) : sProp 𝕄) from by
        rw [← bigSep_sep']
        exact (bigSep_mono fun k _ => (Rounds.body_intro ER (ringRd m) (kcell c k)).trans inv_alloc).trans (bigSep_fupd _ _)) $$ [Hv Hst] with Hinv
  · isplitl [Hv] <;> iassumption
  imodintro
  isplitl [Hinv]; · iexact Hinv
  isplitl [Hat]; · iexact Hat
  iexact Htok

/-- The positions and tokens, dealt around the ring to the devices that pay with them. -/
theorem deal : iprop((bigSep Finset.univ fun c : Dev nD => bigSep Finset.univ fun k : Cell => atPos ER (kcell c k) 0 ∅ 0)
      ∗ bigSep Finset.univ fun c : Dev nD => toks c) ⊢ (bigSep Finset.univ fun c : Dev nD => lin c : sProp 𝕄) := by
  have hp : ∀ c : Dev nD, (bigSep Finset.univ fun k : Cell => (atPos ER (kcell c k) 0 ∅ 0 : sProp 𝕄))
      = iprop(atPos ER (barCell c) 0 ∅ 0 ∗ (bigSep Finset.univ fun l : Lane => bigSep Finset.univ fun h => atPos ER (sendCell c l h) 0 ∅ 0)
          ∗ bigSep Finset.univ fun l : Lane => bigSep Finset.univ fun h => atPos ER (recvCell c l h) 0 ∅ 0) := fun c => by
    rw [bigSep_cell, bigSep_xf]; rfl
  have hg : ∀ c : Dev nD, (bigSep Finset.univ fun l : Lane => bigSep Finset.univ fun h => (hopGhost c l h : sProp 𝕄))
      = iprop((bigSep Finset.univ fun l : Lane => bigSep Finset.univ fun h => dutyTok ER (sendCell c l h) 0 false)
        ∗ (bigSep Finset.univ fun l : Lane => bigSep Finset.univ fun h => dutyTok ER (recvCell (peer l.1 c) l h) 0 false)
        ∗ (bigSep Finset.univ fun l : Lane => bigSep Finset.univ fun h => atPos ER (sendCell c l h) 0 ∅ 0)
        ∗ bigSep Finset.univ fun l : Lane => bigSep Finset.univ fun h => atPos ER (recvCell c l h) 0 ∅ 0) := fun c => by
    unfold hopGhost; simp only [bigSep_sep']
  unfold lin toks
  simp only [hp, hg, bigSep_sep']
  rw [bigSep_around (fun c l h => dutyTok ER (recvCell c l h) 0 false),
    BI.bigSep_univ_equiv (ring true) (fun c : Dev nD => (dutyTok ER (barCell c) 0 false : sProp 𝕄)),
    BI.bigSep_univ_equiv (ring false) (fun c : Dev nD => (dutyTok ER (barCell c) 0 true : sProp 𝕄))]
  iintro ⟨⟨H1, H2, H3⟩, ⟨H4, H5⟩, H6, H7⟩
  isplitl [H1]; · iexact H1
  isplitl [H4]; · iexact H4
  isplitl [H5]; · iexact H5
  isplitl [H6]; · iexact H6
  isplitl [H7]; · iexact H7
  isplitl [H2] <;> iassumption

/-- The records may be shared with every device. -/
theorem share_records (K : Dev nD × Cell → ℕ) : iprop(records m K ∗ bigSep Finset.univ fun c : Dev nD => lin c) ⊢ bigSep Finset.univ (G' m) := by
  have h : iprop((bigSep Finset.univ fun _ : Dev nD => records m K) ∗ bigSep Finset.univ fun c : Dev nD => lin c) ⊢ bigSep Finset.univ (G' m) := by
    rw [← bigSep_sep']
    exact bigSep_mono fun c _ => show iprop(records m K ∗ lin c) ⊢ (G' m c : sProp 𝕄) from by
      unfold G'
      iintro H
      iexists K
      iexact H
  exact (sep_mono_left (BI.bigSep_of_persistent Finset.univ (records m K))).trans h

/-- All devices' invariants are the shared records. -/
theorem regroup :
    (bigSep Finset.univ fun c : Dev nD => iprop((bigSep Finset.univ fun k : Cell => iprop(∃ κ : ℕ, cellInv ER (ringRd m) κ (kcell c k)))
          ∗ (bigSep Finset.univ fun k : Cell => iprop(atPos ER (kcell c k) 0 ∅ 0 ∗ reached ER (kcell c k) 0)) ∗ toks c) : sProp 𝕄)
      ⊢ bigSep Finset.univ (G' m) := by
  rw [bigSep_sep', bigSep_sep', ← bigSep_univ_prod (fun ck : Dev nD × Cell => iprop(∃ κ : ℕ, cellInv ER (ringRd m) κ (kcell ck.1 ck.2))),
    bigSep_congr (s := Finset.univ) (fun (c : Dev nD) _ => bigSep_sep' Finset.univ (fun k : Cell => (atPos ER (kcell c k) 0 ∅ 0 : sProp 𝕄)) (fun k => reached ER (kcell c k) 0)),
    bigSep_sep', ← bigSep_univ_prod (fun ck : Dev nD × Cell => (reached ER (kcell ck.1 ck.2) 0 : sProp 𝕄))]
  iintro ⟨HI, ⟨Hat, #HR⟩, Htok⟩
  ihave HK := (BI.bigSep_exists_pi Finset.univ (fun (ck : Dev nD × Cell) (κ : ℕ) => (cellInv ER (ringRd m) κ (kcell ck.1 ck.2) : sProp 𝕄))) $$ HI
  icases HK with ⟨%K, #HI⟩
  ihave Hl := (deal (F := F)) $$ [Hat Htok]
  · isplitl [Hat] <;> iassumption
  iapply (share_records m K)
  isplitr
  · unfold records; isplitl; · iexact HI
    iexact HR
  · iexact Hl

/-- The global step at launch. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- The credit of a hop's receive semaphore, from the neighbour's debt. -/
theorem hop_credit (l : Lane) (h : Fin 3) (c : Dev nD) :
    (Pipeline.launchCred (fun d => tallyAt (recvCell (peer l.1 d) l h) () N) c : sProp 𝕄) ⊢ hopCred c l h :=
  Pipeline.launchCred_tallyAt (.dma (recvS l.1 h l.2)) (peer l.1) (peer (!l.1)) (peer_peer' l.1) (peer_peer l.1) () N c

/-- What a device's waits may rely on: the credits of all its receive semaphores and of its barrier. -/
theorem creds_intro (c : Dev nD) : (Pipeline.launchCred O₀ c : sProp 𝕄) ⊢ creds c := by
  have hl : ∀ l : Lane, (Pipeline.launchCred (fun d => owed d l 0) c : sProp 𝕄) ⊢ bigSep Finset.univ fun h => hopCred c l h := fun l => by
    show (Pipeline.launchCred (fun d => tallyAt (recvCell (peer l.1 d) l 2) () N + tallyAt (recvCell (peer l.1 d) l 1) () N
      + tallyAt (recvCell (peer l.1 d) l 0) () N) c : sProp 𝕄) ⊢ _
    rw [Pipeline.launchCred_add, Pipeline.launchCred_add, bigSep_three]
    iintro ⟨⟨H2, H1⟩, H0⟩
    isplitl [H0]; · iapply (hop_credit l 0 c); iexact H0
    isplitl [H1]; · iapply (hop_credit l 1 c); iexact H1
    iapply (hop_credit l 2 c); iexact H2
  have hb : ∀ d : Bool, (Pipeline.launchCred (fun e => tallyAt (barCell (peer d e)) () 1) c : sProp 𝕄) ⊢ cred (tallyAt (barCell c) () 1) := fun d =>
    Pipeline.launchCred_tallyAt (.reg barS) (peer d) (peer (!d)) (peer_peer' d) (peer_peer d) () 1 c
  unfold O₀ creds
  rw [Pipeline.launchCred_add, Pipeline.launchCred_add, Pipeline.launchCred_sum]
  iintro ⟨⟨H, H0⟩, H1⟩
  ihave H0 := (hb false) $$ H0
  ihave H1 := (hb true) $$ H1
  isplitl [H0 H1]
  · rw [show (tallyAt (barCell c) () 2 : CellTallies nD τ sig Unit) = tallyAt (barCell c) () 1 + tallyAt (barCell c) () 1 from (tallyAt_add _ _ 1 1).symm]
    iapply (cred_add _ _).2
    isplitl [H0] <;> iassumption
  have hm : (bigSep Finset.univ fun l : Lane => Pipeline.launchCred (fun d => owed d l 0) c : sProp 𝕄)
      ⊢ bigSep Finset.univ fun l : Lane => bigSep Finset.univ fun h => hopCred c l h := bigSep_mono fun l _ => hl l
  iapply hm
  iexact H

/-! ## The region's conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ wbAny bufAny
  iintro ⟨Hs, -, H0, H1, H2⟩
  isplitl [Hs]; · iexact Hs
  isplitl [H0]; · iexact H0
  isplitl [H1]; · iexact H1
  iexact H2

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems0_eq, unscopedSems0_eq, bigSep_xf]
  unfold Φ₁ closed hopClosed wbAny bufAny
  simp only [bigSep_sep']
  iintro ⟨H0, H1, H2, HzB, HzS, HzV⟩
  isplitl [HzB]; · iexact HzB
  isplitl [HzS HzV]
  · isplitl [HzS]; · iexact HzS
    iexact HzV
  isplitl [H0]; · iexact H0
  isplitl [H1]; · iexact H1
  iexact H2

/-- The staging semaphores are none of the protocol's. -/
theorem lv_stage (c : Dev nD) (q : DmaSem sig) (hq : q.val < 5) : lv ((c : Thread nD τ), .dma q) () = 0 := by
  have : kOf ((c : Thread nD τ), .dma q) = none := dif_neg fun ⟨_, k, hk⟩ => by
    obtain _ | ⟨r, d, h, s⟩ := k
    · cases hk
    · have e := congrArg Fin.val (SemLoc.dma.inj hk)
      cases r
      · have e : (sendS d h s).val = q.val := e
        rw [sendS_val] at e; omega
      · have e : (recvS d h s).val = q.val := e
        rw [recvS_val] at e; omega
  unfold lv
  rw [this]
  rfl

theorem above_O₀ (c : Dev nD) : Above 0 (O₀ c) :=
  ((Above.sum _ fun l _ => above_owed c l 0 (Nat.zero_le _)).add (Above.tally (by rw [lv_bar]; decide))).add (Above.tally (by rw [lv_bar]; decide))

theorem waits (c : Dev nD) : (levAts L lv : sProp 𝕄) ⊢ Pipeline.cellsWaits cfgs (dats m) () 0 c :=
  Pipeline.cellsWaits_intro cfgs (dats m) () 0 c fun w s t => by
    refine mayWait c _ ?_
    rw [lv_stage c _ (by fin_cases w <;> fin_cases s <;> decide)]
    rcases t with ⟨_ | _, ht⟩
    · exact above_O₀ c
    · exact Above.zero 0

/-! ## The run -/

/-- What an array holds at the end. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 100000 in
/-- On four devices, from any memory with zero semaphores: the kernel terminates, every array of every device ends holding
`finalA`, and every semaphore is zero again. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument arrays end as they were. -/
theorem finalA_x (c : Dev nD) : finalA m c (0 : Fin 5) = m (win0_0.arr.view.loc (c : Thread nD τ)) := (dats (F := F) m 0 c).arrAt_in (0 : Fin 5) rfl _
theorem finalA_w (c : Dev nD) : finalA m c (1 : Fin 5) = m (win0_1.arr.view.loc (c : Thread nD τ)) := (dats (F := F) m 0 c).arrAt_in (1 : Fin 5) rfl _
theorem finalA_sx (c : Dev nD) : finalA m c (2 : Fin 5) = m (win0_2.arr.view.loc (c : Thread nD τ)) := (dats (F := F) m 0 c).arrAt_in (2 : Fin 5) rfl _
theorem finalA_sw (c : Dev nD) : finalA m c (3 : Fin 5) = m (win0_3.arr.view.loc (c : Thread nD τ)) := (dats (F := F) m 0 c).arrAt_in (3 : Fin 5) rfl _

/-- The frame: the kernel terminates, its arguments end unchanged, every semaphore ends at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_mono (run_main m ρ) (fun r h => ⟨fun c => ⟨(h.1 c 0).trans (finalA_x m c), (h.1 c 1).trans (finalA_w m c), (h.1 c 2).trans (finalA_sx m c),
    (h.1 c 3).trans (finalA_sw m c)⟩, h.2⟩)

end Cert.KernelIdeal.Body

end

end
-- ==== Proof.Value.Kernel.lean ====
/-
What the kernel's result array holds on every device, and the tiles it is made of, entry by entry over the extended reals.
-/
module

public import proofs.«01_k».proof.Proof.KernelIdeal.Launch
public import Idealize.ShloMosaic.Lib.Pipeline.Value
public import Idealize.ShloMosaic.Lib.MatmulPlain
public import Idealize.ShloMosaic.Lib.ValueIdx

@[expose] public section

noncomputable section

namespace Cert.KernelIdeal.Body

open Cert.KernelIdeal Cert.KernelIdeal.Gen
open Idealize.ShloMosaic Idealize.ShloMosaic.TcCoe Idealize.SL.Sem
open Idealize.ShloMosaic.ValueIdx

section

variable {F : FTy → Type} [FloatOps F]
variable (m : (ℓ : Loc nD τ sig) → Buf (Elt F) ℓ) (ρ : Dev nD → PrngReg)

/-- The staged blocks are the arguments. -/
theorem xstg_eq (c : Dev nD) : xstg m c = m ((c : Thread nD τ).loc main_arg0) :=
  Memref.read_access_unit_zero (Elt F) main_arg0 (funext fun a => by fin_cases a <;> decide) (fun a => by fin_cases a <;> decide) (m ((c : Thread nD τ).loc main_arg0))
theorem wstg_eq (c : Dev nD) : wstg m c = m ((c : Thread nD τ).loc main_arg1) :=
  Memref.read_access_unit_zero (Elt F) main_arg1 (funext fun a => by fin_cases a <;> decide) (fun a => by fin_cases a <;> decide) (m ((c : Thread nD τ).loc main_arg1))
theorem sxstg_eq (c : Dev nD) : sxstg m c = m ((c : Thread nD τ).loc main_arg2) :=
  Memref.read_access_unit_zero (Elt F) main_arg2 (funext fun a => by fin_cases a <;> decide) (fun a => by fin_cases a <;> decide) (m ((c : Thread nD τ).loc main_arg2))
theorem swstg_eq (c : Dev nD) : swstg m c = m ((c : Thread nD τ).loc main_arg3) :=
  Memref.read_access_unit_zero (Elt F) main_arg3 (funext fun a => by fin_cases a <;> decide) (fun a => by fin_cases a <;> decide) (m ((c : Thread nD τ).loc main_arg3))

/-- The result array, once the run is over. -/
theorem finalA_out (c : Dev nD) : finalA m c (4 : Fin 5) = outAt m c := by
  have h := (dats m 0 c).read_blk_arrAt_eq_flushed 4 (fun t t' _ _ hne => absurd ((fin_N0 t).trans (fin_N0 t').symm) hne) cfg0.N t0_0 t0_0.isLt (flush0_4 t0_0)
  exact (Memref.read_access_unit_zero (Elt F) main_v1 (funext fun a => by fin_cases a <;> decide) (fun a => by fin_cases a <;> decide)
    ((dats m 0 c).arrAt 4 cfg0.N)).symm.trans h

/-- The run: every device's result as computed, its arguments unchanged. -/
theorem value_run : θ_run defs (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  θ_run_mono (run_main m ρ) fun r h c => ⟨(h.1 c 4).trans (finalA_out m c), (h.1 c 0).trans (finalA_x m c), (h.1 c 1).trans (finalA_w m c),
    (h.1 c 2).trans (finalA_sx m c), (h.1 c 3).trans (finalA_sw m c)⟩

/-- The device whose tile arrives for stage `3 - j`: `j` steps back along the lane. -/
def back (d : Bool) (c : Dev nD) : Fin 4 → Dev nD
  | 0 => c
  | 1 => peer (!d) c
  | 2 => peer (!d) (peer (!d) c)
  | 3 => peer (!d) (peer (!d) (peer (!d) c))

/-- At the stage that feeds device `c`'s result, every device reads the rows of `x` that belong to `c`. -/
theorem rows_off (d : Bool) (c : Dev nD) (j : Fin 4) :
    k0_off1 (back d c j) (BitVec.ofNat 32 (turn d (3 - j)).val) = ![1024 * c.val, 0] := by
  revert d c j; decide +kernel

/-- Those rows, an entry at a time; -/
theorem xs_apply (d : Bool) (c : Dev nD) (j : Fin 4) (r k : Fin 1024) :
    xs m (back d c j) d (3 - j) (ix2 r k) = m ((back d c j : Thread nD τ).loc main_arg0)
      (ix2 (n0 := 4096) (n1 := 1024) ⟨1024 * c.val + r.val, by have := c.isLt; have := r.isLt; simp only [nD] at *; omega⟩ k) := by
  have ho := rows_off d c j
  show xstg m (back d c j) ((rowsR (back d c j) d (3 - j)).toLoadRect.idx (ix2 r k)) = _
  rw [xstg_eq]
  refine congrArg (m ((back d c j : Thread nD τ).loc main_arg0)) (funext fun a => Fin.ext ?_)
  fin_cases a
  · show k0_off1 (back d c j) (BitVec.ofNat 32 (turn d (3 - j)).val) 0 + 1 * r.val = 1024 * c.val + r.val
    rw [ho]; show 1024 * c.val + 1 * r.val = _; omega
  · show k0_off1 (back d c j) (BitVec.ofNat 32 (turn d (3 - j)).val) 1 + 1 * k.val = k.val
    rw [ho]; show 0 + 1 * k.val = _; omega

/-- the lane's columns of `w`, likewise. -/
theorem ws_apply (c : Dev nD) (l : Lane) (k : Fin 1024) (q : Fin 256) :
    ws m c l (ix2 k q) = m ((c : Thread nD τ).loc main_arg1)
      (ix2 (n0 := 1024) (n1 := 2048) k ⟨col l + q.val, by have := inb_col l 1; have := q.isLt; exact lt_of_lt_of_le (Nat.add_lt_add_left q.isLt _) (inb_col l 1)⟩) := by
  show wstg m c ((colR l).toLoadRect.idx (ix2 k q)) = _
  rw [wstg_eq]
  refine congrArg (m ((c : Thread nD τ).loc main_arg1)) (funext fun a => Fin.ext ?_)
  fin_cases a
  · show 0 + 1 * k.val = k.val; omega
  · show col l + 1 * q.val = col l + q.val; omega

end

variable (m : (ℓ : Loc nD τ sig) → Buf (Elt Ideal) ℓ)

/-- An entry of a block product. -/
theorem gemm_apply (x : Vec Ideal S1024x1024 .fp8e5m2) (w : Vec Ideal S1024x256 .fp8e5m2) (r : Fin 1024) (q : Fin 256) :
    gemm x w (ix2 r q) = ∑ k : Fin 1024, (x (ix2 r k) : EReal) * w (ix2 k q) := by
  unfold gemm
  rw [shapeCast_self]
  have hm := Ideal.matmul_plain_apply (φ₁ := .fp8e5m2) (φ₂ := .fp8e5m2) none x w (constant S1024x256 .f32 0x00000000#32) r q
  rw [show (constant S1024x256 .f32 0x00000000#32 : FVec Ideal S1024x256 .f32) (ix2 r q) = (0 : EReal) from Ideal.ofBits_zero_f32, zero_add] at hm
  exact hm

/-- What device `back d c j` adds to an entry of `c`'s result: its own share of the contraction. -/
def share (l : Lane) (c : Dev nD) (j : Fin 4) (r : Fin 1024) (q : Fin 256) : EReal :=
  ∑ k : Fin 1024, (xs m (back l.1 c j) l.1 (3 - j) (ix2 r k) : EReal) * ws m (back l.1 c j) l (ix2 k q)

/-- A finished tile's entry: the four shares added, scaled, cut off below zero. -/
theorem outV_apply (l : Lane) (c : Dev nD) (r : Fin 1024) (q : Fin 256) :
    outV m l c (ix2 r q) = max ((share m l c 0 r q + (share m l c 1 r q + (share m l c 2 r q + share m l c 3 r q))) * alpha m c) (0 : EReal) := by
  unfold share
  rw [← gemm_apply, ← gemm_apply, ← gemm_apply, ← gemm_apply]
  have h0 : (Scalar.ofBits .f32 0x00000000#32 : Ideal .f32) = (0 : EReal) := Ideal.ofBits_zero_f32
  show max _ (Scalar.ofBits .f32 0x00000000#32 : Ideal .f32) = _
  rw [h0]
  rfl

end Cert.KernelIdeal.Body

end

end
-- ==== Proof.Value.Reference.lean ====
/-
What the reference computes: its result array as one function of its four arguments, and that function's entries over the
extended reals.
-/
module

public import proofs.«01_k».proof.Proof.Gen.ReferenceIdeal.Value
public import Idealize.ShloMosaic.Lib.MatmulPlain
public import Idealize.ShloMosaic.Lib.ValueIdx

@[expose] public section

noncomputable section

namespace Cert.ReferenceIdeal.Whole

open Cert.ReferenceIdeal Cert.ReferenceIdeal.Gen
open Idealize.ShloMosaic Idealize.ShloMosaic.TcCoe Idealize.SL.Sem
open Idealize.ShloMosaic.ValueIdx

section

variable {F : FTy → Type} [FloatOps F]
variable (m : (ℓ : Loc nD τ sig) → Buf (Elt F) ℓ) (ρ : Dev nD → PrngReg)

theorem zeros1 : (![0] : Fin 1 → Nat) = fun _ => 0 := funext fun a => by fin_cases a; rfl
theorem zeros : (![0, 0] : Fin 2 → Nat) = fun _ => 0 := funext fun a => by fin_cases a <;> rfl

/-- The only index of a one-element array. -/
abbrev one : S1.Idx := Shape.Idx.first (by decide)

/-- The whole computation: the product of the arrays, scaled, cut off below zero. -/
def whole (x : Vec F S4096x4096 .fp8e5m2) (w : Vec F S4096x2048 .fp8e5m2) (sx sw : Vec F S1 .f32) : Vec F S4096x2048 .f32 :=
  k0_pay1 x w (sx one) (sw one)

/-- The body leaves it in the output's staging buffer. -/
theorem out_eq (c : Dev nD) (a0 : Memref sig .tc .vmem S4096x4096 .fp8e5m2) (h0 : a0.IsWhole)
    (a1 : Memref sig .tc .vmem S4096x2048 .fp8e5m2) (h1 : a1.IsWhole) (a2 : Memref sig .tc .smem S1 .f32) (h2 : a2.IsWhole)
    (a3 : Memref sig .tc .smem S1 .f32) (h3 : a3.IsWhole) (a4 : Memref sig .tc .vmem S4096x2048 .f32) (h4 : a4.IsWhole)
    (x : Vec F S4096x4096 .fp8e5m2) (w : Vec F S4096x2048 .fp8e5m2) (sx sw : Vec F S1 .f32) :
    out0_A_4 c a0 h0 a1 h1 a2 h2 a3 h3 a4 h4 x w sx sw = whole x w sx sw := by
  unfold out0_A_4
  rw [View.read_writes_eq_canon _ _ _ (cover0_A_4 c a0 h0 a1 h1 a2 h2 a3 h3 a4 h4 x w sx sw)]
  unfold kernelRun0_A
  dsimp only
  sl_unfold_words
  rw [View.canon_unit_zero zeros]
  unfold whole
  simp only [View.readAt_eq_ld, h0.read_unread, h1.read_unread, h2.read_unread, h3.read_unread, View.ld_unit_zero (S := S4096x4096) zeros,
    View.ld_unit_zero (S := S4096x2048) zeros]
  rw [View.ld_unit_zero (S := S1) zeros1 inb_S1_S1_0 sx, View.ld_unit_zero (S := S1) zeros1 inb_S1_S1_0 sw]

/-- The arrays' staged blocks are the arrays. -/
theorem iblk0 (c : Dev nD) : (iblk m c 0 t0_0 : Vec F S4096x4096 .fp8e5m2) = m ((c : Thread nD τ).loc main_arg0) :=
  Memref.read_access_unit_zero (Elt F) main_arg0 (funext fun a => by fin_cases a <;> decide) (fun a => by fin_cases a <;> decide) (m ((c : Thread nD τ).loc main_arg0))
theorem iblk1 (c : Dev nD) : (iblk m c 1 t0_0 : Vec F S4096x2048 .fp8e5m2) = m ((c : Thread nD τ).loc main_arg1) :=
  Memref.read_access_unit_zero (Elt F) main_arg1 (funext fun a => by fin_cases a <;> decide) (fun a => by fin_cases a <;> decide) (m ((c : Thread nD τ).loc main_arg1))
theorem iblk2 (c : Dev nD) : (iblk m c 2 t0_0 : Vec F S1 .f32) = m ((c : Thread nD τ).loc main_arg2) :=
  Memref.read_access_unit_zero (Elt F) main_arg2 (funext fun a => by fin_cases a <;> decide) (fun a => by fin_cases a <;> decide) (m ((c : Thread nD τ).loc main_arg2))
theorem iblk3 (c : Dev nD) : (iblk m c 3 t0_0 : Vec F S1 .f32) = m ((c : Thread nD τ).loc main_arg3) :=
  Memref.read_access_unit_zero (Elt F) main_arg3 (funext fun a => by fin_cases a <;> decide) (fun a => by fin_cases a <;> decide) (m ((c : Thread nD τ).loc main_arg3))

/-- The result array, from the arguments as launched. -/
def result (c : Dev nD) : Buf (Elt F) ((c : Thread nD τ).loc main_v0) :=
  whole (m ((c : Thread nD τ).loc main_arg0)) (m ((c : Thread nD τ).loc main_arg1)) (m ((c : Thread nD τ).loc main_arg2)) (m ((c : Thread nD τ).loc main_arg3))

/-- The result array's one block is the array. -/
theorem blk_read (f : Buf (Elt F) (((0 : Dev nD) : Thread nD τ).loc main_v0)) :
    ((cfg0.win 4).blk t0_0).view.read (Elt F) f = f :=
  Memref.read_access_unit_zero (Elt F) main_v0 (funext fun a => by fin_cases a <;> decide) (fun a => by fin_cases a <;> decide) f

/-- It ends holding the whole computation. -/
theorem final_eq (c : Dev nD) : (dats m 0 c).arrAt 4 cfg0.N = result m c := by
  have h := Value.blocks4 m c t0_0 (flush0_4 t0_0)
  rw [Value.flushed4_A, out_eq, iblk0, iblk1, iblk2, iblk3] at h
  refine (Memref.read_access_unit_zero (Elt F) main_v0 (funext fun a => by fin_cases a <;> decide) (fun a => by fin_cases a <;> decide)
    ((dats m 0 c).arrAt 4 cfg0.N)).symm.trans (h.trans rfl)

/-- The run: the result array as computed, the arguments unchanged. -/
theorem run : θ_run defs (onTc (τ := τ) (main (F := F))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_eq m c), (h c).2⟩) (Value.run_blocks m ρ)

end

/-- An entry of the result: a row of `x` times a column of `w`, scaled, cut off below zero. -/
theorem whole_apply (x : Vec Ideal S4096x4096 .fp8e5m2) (w : Vec Ideal S4096x2048 .fp8e5m2) (sx sw : Vec Ideal S1 .f32)
    (r : Fin 4096) (q : Fin 2048) :
    whole x w sx sw (ix2 r q) = max ((∑ k : Fin 4096, (x (ix2 r k) : EReal) * w (ix2 k q)) * ((sx one : EReal) * sw one)) (0 : EReal) := by
  have hm := Ideal.matmul_plain_apply none (extf .f32 x bitsLt_fp8e5m2_f32 : FVec Ideal S4096x4096 .f32) (extf .f32 w bitsLt_fp8e5m2_f32 : FVec Ideal S4096x2048 .f32)
    (constant S4096x2048 .f32 0x00000000#32) r q
  rw [show (constant S4096x2048 .f32 0x00000000#32 : FVec Ideal S4096x2048 .f32) (ix2 r q) = (0 : EReal) from Ideal.ofBits_zero_f32, zero_add] at hm
  have h0 : (Scalar.ofBits .f32 0x00000000#32 : Ideal .f32) = (0 : EReal) := Ideal.ofBits_zero_f32
  show max _ (Scalar.ofBits .f32 0x00000000#32 : Ideal .f32) = _
  rw [h0]
  exact congrArg (fun t : EReal => max (t * ((sx one : EReal) * sw one)) 0) hm

end Cert.ReferenceIdeal.Whole

end

end
-- ==== Proof.Value.Equation.lean ====
/-
The equation: on arguments cut over the devices, every device's result is its block of the reference's result.
-/
module

public import proofs.«01_k».proof.Proof.Value.Kernel
public import proofs.«01_k».proof.Proof.Value.Reference
public import Idealize.ShloMosaic.Lib.Layout
public import Idealize.ShloMosaic.Lib.Pointwise.Sums

@[expose] public section

noncomputable section

namespace Cert.Equation

open Cert.KernelIdeal (nD τ sig main_arg0 main_arg1 main_arg2 main_arg3)
open Cert.KernelIdeal.Body
open Idealize.ShloMosaic Idealize.ShloMosaic.TcCoe

/-- The devices behind a lane are all the devices, so a sum over them in ring order is the sum over all. -/
theorem sum_back (f : Dev nD → EReal) (d : Bool) (c : Dev nD) :
    f (back d c 0) + (f (back d c 1) + (f (back d c 2) + f (back d c 3))) = ∑ e : Dev nD, f e := by
  have h : Function.Bijective (back d c) := by revert d c; decide +kernel
  rw [← h.sum_comp f]
  show _ = ∑ j : Fin 4, f (back d c j)
  rw [Fin.sum_univ_four, add_assoc, add_assoc]

/-- A column is its place in its lane's tile. -/
theorem col_laneOf (q : ℕ) (hq : q < 2048) : col (laneOf q) + q % 256 = q := by
  unfold col laneOf
  by_cases h : 1024 ≤ q
  · simp only [h, decide_true, cond_true]; omega
  · simp only [h, decide_false, cond_false]; omega

section

variable (m : (ℓ : Loc nD τ sig) → Buf (Elt Ideal) ℓ)
variable (x : (⟨2, ![4096, 4096]⟩ : Shape).Idx → Elt Ideal .fp8e5m2) (w : (⟨2, ![4096, 2048]⟩ : Shape).Idx → Elt Ideal .fp8e5m2)
variable (tx : Layout.Tiles ⟨2, ![4096, 1024]⟩ ⟨2, ![4096, 4096]⟩ 1 4) (tw : Layout.Tiles ⟨2, ![1024, 2048]⟩ ⟨2, ![4096, 2048]⟩ 0 4)
variable (hx : ∀ c : Dev nD, m ((c : Thread nD τ).loc main_arg0) = Layout.block ⟨2, ![4096, 1024]⟩ ⟨2, ![4096, 4096]⟩ 1 4 c x tx)
variable (hw : ∀ c : Dev nD, m ((c : Thread nD τ).loc main_arg1) = Layout.block ⟨2, ![1024, 2048]⟩ ⟨2, ![4096, 2048]⟩ 0 4 c w tw)

/-- Device `e`'s term of the contraction at position `k`. -/
def term (r : Fin 4096) (q : Fin 2048) (e : Fin 4) (k : Fin 1024) : EReal :=
  (x (ValueIdx.ix2 r (⟨e.val * 1024 + k.val, by have := e.isLt; have := k.isLt; omega⟩ : Fin 4096)) : EReal)
    * w (ValueIdx.ix2 (⟨e.val * 1024 + k.val, by have := e.isLt; have := k.isLt; omega⟩ : Fin 4096) q)

include hx hw in
/-- A device's share of an entry is its segment of the contraction. -/
theorem share_eq_term (l : Lane) (c : Dev nD) (j : Fin 4) (r : Fin 1024) (q : Fin 256)
    (r' : Fin 4096) (hr : r'.val = c.val * 1024 + r.val) (q' : Fin 2048) (hq : q'.val = col l + q.val) :
    share m l c j r q = ∑ k : Fin 1024, term x w r' q' (back l.1 c j) k := by
  unfold share term
  refine Finset.sum_congr rfl fun k _ => ?_
  rw [xs_apply m l.1 c j r k, ws_apply m (back l.1 c j) l k q, hx, hw]
  refine congrArg₂ (fun a b : EReal => a * b) (congrArg x (funext fun a => Fin.ext ?_)) (congrArg w (funext fun a => Fin.ext ?_))
  · fin_cases a
    · show 1024 * c.val + r.val = r'.val; omega
    · show (back l.1 c j).val * 1024 + k.val = _; rfl
  · fin_cases a
    · show (back l.1 c j).val * 1024 + k.val = _; rfl
    · show col l + q.val = q'.val; omega

/-- The whole contraction, segment by segment. -/
theorem contraction (r : Fin 4096) (q : Fin 2048) :
    (∑ k : Fin 4096, (x (ValueIdx.ix2 r k) : EReal) * w (ValueIdx.ix2 k q)) = ∑ e : Fin 4, ∑ k : Fin 1024, term x w r q e k :=
  Fin.sum_univ_tiles 4 1024 rfl fun k : Fin 4096 => (x (ValueIdx.ix2 r k) : EReal) * w (ValueIdx.ix2 k q)

include hx hw in
/-- Every device ends with its rows of the reference's result. -/
theorem outAt_eq_block (sx sw : (⟨1, ![1]⟩ : Shape).Idx → Elt Ideal .f32) (c : Dev nD)
    (hsx : m ((c : Thread nD τ).loc main_arg2) = sx) (hsw : m ((c : Thread nD τ).loc main_arg3) = sw) :
    outAt m c = Layout.block ⟨2, ![1024, 2048]⟩ ⟨2, ![4096, 2048]⟩ 0 4 c (Cert.ReferenceIdeal.Whole.whole x w sx sw) tw := by
  funext i
  obtain ⟨r, q, rfl⟩ : ∃ (r : Fin 1024) (q : Fin 2048), i = ValueIdx.ix2 r q := ⟨i 0, i 1, ValueIdx.eq_ix2 i⟩
  have hrow : c.val * 1024 + r.val < 4096 := by have := c.isLt; have := r.isLt; simp only [nD] at *; omega
  have hidx : ∀ h : Layout.Tiles ⟨2, ![1024, 2048]⟩ ⟨2, ![4096, 2048]⟩ 0 4, h.idx c (ValueIdx.ix2 r q) = ValueIdx.ix2 (⟨c.val * 1024 + r.val, hrow⟩ : Fin 4096) q := fun h =>
    funext fun a => Fin.ext (by fin_cases a <;> rfl)
  rw [Layout.block_apply, hidx, Cert.ReferenceIdeal.Whole.whole_apply, contraction]
  show outV m (laneOf q.val) c (ValueIdx.ix2 r ⟨q.val % 256, _⟩) = _
  rw [outV_apply]
  have hs := fun j => share_eq_term m x w tx tw hx hw (laneOf q.val) c j r ⟨q.val % 256, Nat.mod_lt _ (by decide)⟩ ⟨c.val * 1024 + r.val, hrow⟩ rfl q (col_laneOf q.val q.isLt).symm
  rw [hs 0, hs 1, hs 2, hs 3, sum_back (fun e => ∑ k : Fin 1024, term x w _ q e k)]
  have ha : (alpha m c : EReal) = (sx Cert.ReferenceIdeal.Whole.one : EReal) * sw Cert.ReferenceIdeal.Whole.one := by
    unfold alpha; rw [sxstg_eq, swstg_eq, hsx, hsw]; rfl
  rw [ha]

end

end Cert.Equation

end

end
-- ==== Proof.lean ====
/-
The certificate: the kernel and its idealization run to the end with every argument as it was and every semaphore at zero,
so does the reference, and over the extended reals every device's result is its block of the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Kernel.Launch
public import proofs.«01_k».proof.Proof.KernelIdeal.Launch
public import proofs.«01_k».proof.Proof.Value.Equation
public import Idealize.ShloMosaic.Adequacy
public import Idealize.ShloMosaic.Init

@[expose] public section

noncomputable section

namespace Cert.Proof

open Idealize.ShloMosaic Idealize.SL.Sem

/-- The kernel's result is, device by device, the reference's. -/
theorem algebraic : algebraic_KernelIdeal_ReferenceIdeal (hKernelIdeal := Cert.KernelIdeal.Gen.facts) (hReferenceIdeal := Cert.ReferenceIdeal.Gen.facts) := by
  intro m g m' g' _ h
  refine ⟨Cert.ReferenceIdeal.Whole.result m' 0,
    θ_run_mono (Cert.KernelIdeal.Body.value_run m g) fun r hr c => ⟨(hr c).1.trans ?_, (hr c).2⟩,
    θ_run_mono (Cert.ReferenceIdeal.Whole.run m' g') fun r hr => hr 0⟩
  exact Cert.Equation.outAt_eq_block m _ _ (by decide) (by decide) (fun c => (h c).1) (fun c => (h c).2.1) _ _ c (h c).2.2.1 (h c).2.2.2

/-- All five claims. -/
theorem claim : Cert.Claim := ⟨Cert.Kernel.Gen.facts, Cert.KernelIdeal.Gen.facts, Cert.ReferenceIdeal.Gen.facts,
  fun m g _ => Cert.Kernel.Body.frame_run m g,
  fun m g _ => Cert.KernelIdeal.Body.frame_run m g,
  fun m g _ => Cert.ReferenceIdeal.Gen.frame m g,
  trivial,
  algebraic⟩

end Cert.Proof

end
